-- ==== Defs.lean ====
def Pre_Kernel [hPre_groups_fill : Cert.Pre_groups_fill.Facts] (m : (ℓ : Loc Cert.Kernel.nD Cert.Kernel.τ Cert.Kernel.sig) → Buf (Elt Bits) ℓ) : Prop :=
  ∀ c : Dev Cert.Kernel.nD,
    (Cert.Pre_groups_fill.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_fill : Cert.Pre_groups_fill.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fill.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fill [hPre_groups_fill : Cert.Pre_groups_fill.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fill.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_fill : Cert.Pre_groups_fill.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_fill [hReferenceIdeal : Cert.ReferenceIdeal.Facts] [hPre_groups_fill : Cert.Pre_groups_fill.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fill m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_fill : Cert.Pre_groups_fill.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_fill : Cert.Pre_groups_fill.Facts),
    quiescent_Kernel (hKernel := hKernel) (hPre_groups_fill := hPre_groups_fill)
    ∧ quiescent_KernelIdeal (hKernelIdeal := hKernelIdeal) (hPre_groups_fill := hPre_groups_fill)
    ∧ quiescent_ReferenceIdeal (hReferenceIdeal := hReferenceIdeal)
    ∧ quiescent_ReferenceIdeal_pre_groups_fill (hReferenceIdeal := hReferenceIdeal) (hPre_groups_fill := hPre_groups_fill)
    ∧ preserves_Kernel_KernelIdeal
    ∧ algebraic_KernelIdeal_ReferenceIdeal (hKernelIdeal := hKernelIdeal) (hReferenceIdeal := hReferenceIdeal) (hPre_groups_fill := hPre_groups_fill)
-- ==== Pre_groups_fill.lean ====
abbrev S24576x2048 : Shape := ⟨2, ![24576, 2048]⟩
abbrev S24576 : Shape := ⟨1, ![24576]⟩
abbrev S32x2048x1536 : Shape := ⟨3, ![32, 2048, 1536]⟩
abbrev S32x1536 : Shape := ⟨2, ![32, 1536]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S24576x2048 .fp8e4m3) (main_arg1 : FVec F S24576 .f32) (main_arg2 : FVec F S32x2048x1536 .fp8e4m3) (main_arg3 : FVec F S32x1536 .f32) (main_arg4 : IVec S32 32) : IVec S_ 1 :=
  let main_c : IVec S_ 32 := constantI S_ 32 0#32
  let main_v0 : IVec S32 32 := broadcastInDim S32 ![] bcast_S_S32 main_c
  let main_v1 : IVec S32 1 := cmpi .sge main_arg4 main_v0
  let main_c_0 : IVec S_ 1 := constantI S_ 1 1#1
  let main_v2 : IVec S_ 1 := (fun x v => Host.reduce IntOp.andi x v reducesTo_S32_S_d0 h_S_) main_v1 main_c_0
  let main_c_1 : IVec S_ 32 := constantI S_ 32 24576#32
  let main_v3 : IVec S32 32 := broadcastInDim S32 ![] bcast_S_S32 main_c_1
  let main_v4 : IVec S32 1 := cmpi .sle main_arg4 main_v3
  let main_c_2 : IVec S_ 1 := constantI S_ 1 1#1
  let main_v5 : IVec S_ 1 := (fun x v => Host.reduce IntOp.andi x v reducesTo_S32_S_d0 h_S_) main_v4 main_c_2
  let main_v6 : IVec S_ 1 := andi main_v2 main_v5
  let main_c_3 : IVec S_ 32 := constantI S_ 32 0#32
  let main_v7 : IVec S_ 32 := (fun x v => Host.reduce IntOp.addi x v reducesTo_S32_S_d0 h_S_) main_arg4 main_c_3
  let main_c_4 : IVec S_ 32 := constantI S_ 32 24576#32
  let main_v8 : IVec S_ 1 := cmpi .eq main_v7 main_c_4
  let main_v9 : IVec S_ 1 := andi main_v6 main_v8
  main_v9
-- ==== Kernel.lean ====
abbrev S24576x2048 : Shape := ⟨2, ![24576, 2048]⟩
abbrev S24576 : Shape := ⟨1, ![24576]⟩
abbrev S32x2048x1536 : Shape := ⟨3, ![32, 2048, 1536]⟩
abbrev S32x1536 : Shape := ⟨2, ![32, 1536]⟩
abbrev S32 : Shape := ⟨1, ![32]⟩
abbrev S_ : Shape := ⟨0, ![]⟩
abbrev S1 : Shape := ⟨1, ![1]⟩
abbrev S127 : Shape := ⟨1, ![127]⟩
abbrev S1x127 : Shape := ⟨2, ![1, 127]⟩
abbrev S32x1 : Shape := ⟨2, ![32, 1]⟩
abbrev S32x127 : Shape := ⟨2, ![32, 127]⟩
abbrev S127x1 : Shape := ⟨2, ![127, 1]⟩
abbrev S126 : Shape := ⟨1, ![126]⟩
abbrev S24576x1 : Shape := ⟨2, ![24576, 1]⟩
abbrev S32x1x1536 : Shape := ⟨3, ![32, 1, 1536]⟩
abbrev S24576x1536 : Shape := ⟨2, ![24576, 1536]⟩
abbrev S256x2048 : Shape := ⟨2, ![256, 2048]⟩
abbrev S256x1 : Shape := ⟨2, ![256, 1]⟩
abbrev S1x2048x1536 : Shape := ⟨3, ![1, 2048, 1536]⟩
abbrev S1x1x1536 : Shape := ⟨3, ![1, 1, 1536]⟩
abbrev S256x1536 : Shape := ⟨2, ![256, 1536]⟩
abbrev S2048x1536 : Shape := ⟨2, ![2048, 1536]⟩
abbrev S1x1536 : Shape := ⟨2, ![1, 1536]⟩
abbrev S12x2048x1536 : Shape := ⟨3, ![12, 2048, 1536]⟩

abbrev nBuf : Space → Nat
  | .hbm => 134
  | .vmem => 10
  | .smem => 6
  | _ => 0

abbrev hbmTy0_0 (i : Nat) : BufTy := match i % 128 with
  | 0 => ⟨S24576x2048, .fp8e4m3⟩
  | 1 => ⟨S24576, .f32⟩
  | 2 => ⟨S32x2048x1536, .fp8e4m3⟩
  | 3 => ⟨S32x1536, .f32⟩
  | 4 => ⟨S32, .i32⟩
  | 5 => ⟨S_, .i32⟩
  | 6 => ⟨S_, .i32⟩
  | 7 => ⟨S32, .i32⟩
  | 8 => ⟨S32, .i32⟩
  | 9 => ⟨S_, .i32⟩
  | 10 => ⟨S_, .i32⟩
  | 11 => ⟨S32, .i32⟩
  | 12 => ⟨S32, .i32⟩
  | 13 => ⟨S32, .i32⟩
  | 14 => ⟨S_, .i32⟩
  | 15 => ⟨S32, .i32⟩
  | 16 => ⟨S32, .i1⟩
  | 17 => ⟨S32, .i32⟩
  | 18 => ⟨S32, .i32⟩
  | 19 => ⟨S_, .i32⟩
  | 20 => ⟨S32, .i32⟩
  | 21 => ⟨S32, .i1⟩
  | 22 => ⟨S32, .i1⟩
  | 23 => ⟨S_, .i32⟩
  | 24 => ⟨S32, .i32⟩
  | 25 => ⟨S32, .i32⟩
  | 26 => ⟨S32, .i32⟩
  | 27 => ⟨S_, .i32⟩
  | 28 => ⟨S32, .i32⟩
  | 29 => ⟨S32, .i32⟩
  | 30 => ⟨S_, .i32⟩
  | 31 => ⟨S_, .i32⟩
  | 32 => ⟨S32, .i32⟩
  | 33 => ⟨S32, .i32⟩
  | 34 => ⟨S32, .i32⟩
  | 35 => ⟨S_, .i32⟩
  | 36 => ⟨S32, .i32⟩
  | 37 => ⟨S32, .i1⟩
  | 38 => ⟨S32, .i32⟩
  | 39 => ⟨S32, .i32⟩
  | 40 => ⟨S_, .i32⟩
  | 41 => ⟨S32, .i32⟩
  | 42 => ⟨S32, .i1⟩
  | 43 => ⟨S32, .i1⟩
  | 44 => ⟨S_, .i32⟩
  | 45 => ⟨S32, .i32⟩
  | 46 => ⟨S32, .i32⟩
  | 47 => ⟨S32, .i32⟩
  | 48 => ⟨S_, .i32⟩
  | 49 => ⟨S32, .i32⟩
  | 50 => ⟨S32, .i1⟩
  | 51 => ⟨S32, .i32⟩
  | 52 => ⟨S_, .i32⟩
  | 53 => ⟨S32, .i32⟩
  | 54 => ⟨S32, .i32⟩
  | 55 => ⟨S_, .i32⟩
  | 56 => ⟨S_, .i32⟩
  | 57 => ⟨S32, .i32⟩
  | 58 => ⟨S32, .i32⟩
  | 59 => ⟨S_, .i32⟩
  | 60 => ⟨S_, .i32⟩
  | 61 => ⟨S32, .i32⟩
  | 62 => ⟨S1, .i32⟩
  | 63 => ⟨S_, .i32⟩
  | 64 => ⟨S127, .i32⟩
  | 65 => ⟨S_, .i32⟩
  | 66 => ⟨S_, .i32⟩
  | 67 => ⟨S127, .i32⟩
  | 68 => ⟨S127, .i32⟩
  | 69 => ⟨S1x127, .i32⟩
  | 70 => ⟨S32x1, .i32⟩
  | 71 => ⟨S32x127, .i32⟩
  | 72 => ⟨S32x127, .i32⟩
  | 73 => ⟨S32x127, .i1⟩
  | 74 => ⟨S32x127, .i32⟩
  | 75 => ⟨S_, .i32⟩
  | 76 => ⟨S_, .i32⟩
  | 77 => ⟨S127, .i32⟩
  | 78 => ⟨S127, .i1⟩
  | 79 => ⟨S_, .i32⟩
  | 80 => ⟨S127, .i32⟩
  | 81 => ⟨S127, .i32⟩
  | 82 => ⟨S127, .i32⟩
  | 83 => ⟨S127x1, .i32⟩
  | 84 => ⟨S127, .i32⟩
  | 85 => ⟨S127, .i32⟩
  | 86 => ⟨S_, .i32⟩
  | 87 => ⟨S127, .i32⟩
  | 88 => ⟨S127, .i1⟩
  | 89 => ⟨S_, .i32⟩
  | 90 => ⟨S127, .i32⟩
  | 91 => ⟨S127, .i32⟩
  | 92 => ⟨S127, .i32⟩
  | 93 => ⟨S127x1, .i32⟩
  | 94 => ⟨S127, .i32⟩
  | 95 => ⟨S_, .i32⟩
  | 96 => ⟨S127, .i32⟩
  | 97 => ⟨S127, .i1⟩
  | 98 => ⟨S_, .i32⟩
  | 99 => ⟨S127, .i32⟩
  | 100 => ⟨S127, .i32⟩
  | 101 => ⟨S127, .i32⟩
  | 102 => ⟨S127x1, .i32⟩
  | 103 => ⟨S127, .i32⟩
  | 104 => ⟨S127, .i32⟩
  | 105 => ⟨S127, .i32⟩
  | 106 => ⟨S127, .i32⟩
  | 107 => ⟨S127, .i1⟩
  | 108 => ⟨S_, .i32⟩
  | 109 => ⟨S1, .i32⟩
  | 110 => ⟨S126, .i32⟩
  | 111 => ⟨S126, .i32⟩
  | 112 => ⟨S126, .i1⟩
  | 113 => ⟨S126, .i32⟩
  | 114 => ⟨S_, .i32⟩
  | 115 => ⟨S127, .i32⟩
  | 116 => ⟨S127, .i1⟩
  | 117 => ⟨S_, .i32⟩
  | 118 => ⟨S127, .i32⟩
  | 119 => ⟨S127, .i32⟩
  | 120 => ⟨S127, .i32⟩
  | 121 => ⟨S127x1, .i32⟩
  | 122 => ⟨S_, .i32⟩
  | 123 => ⟨S127, .i32⟩
  | 124 => ⟨S127, .i1⟩
  | 125 => ⟨S_, .i32⟩
  | 126 => ⟨S127, .i32⟩
  | 127 => ⟨S127, .i32⟩
  | _ => ⟨S24576x2048, .fp8e4m3⟩

abbrev hbmTy0_1 (i : Nat) : BufTy := match i % 128 with
  | 0 => ⟨S127, .i32⟩
  | 1 => ⟨S127x1, .i32⟩
  | 2 => ⟨S24576x1, .f32⟩
  | 3 => ⟨S32x1x1536, .f32⟩
  | 4 => ⟨S24576x1536, .bf16⟩
  | 5 => ⟨S12x2048x1536, .bf16⟩
  | _ => ⟨S24576x2048, .fp8e4m3⟩

abbrev hbmTy (i : Nat) : BufTy := match i / 128 with
  | 0 => hbmTy0_0 i
  | 1 => hbmTy0_1 i
  | _ => ⟨S24576x2048, .fp8e4m3⟩

abbrev bufTy : (tb : Table) → Fin (tcTables nBuf tb) → BufTy
  | .hbm, ⟨i, _⟩ => hbmTy i
  | .local _ .vmem, ⟨0, _⟩ => ⟨S256x2048, .fp8e4m3⟩
  | .local _ .vmem, ⟨1, _⟩ => ⟨S256x2048, .fp8e4m3⟩
  | .local _ .vmem, ⟨2, _⟩ => ⟨S256x1, .f32⟩
  | .local _ .vmem, ⟨3, _⟩ => ⟨S256x1, .f32⟩
  | .local _ .vmem, ⟨4, _⟩ => ⟨S1x2048x1536, .fp8e4m3⟩
  | .local _ .vmem, ⟨5, _⟩ => ⟨S1x2048x1536, .fp8e4m3⟩
  | .local _ .vmem, ⟨6, _⟩ => ⟨S1x1x1536, .f32⟩
  | .local _ .vmem, ⟨7, _⟩ => ⟨S1x1x1536, .f32⟩
  | .local _ .vmem, ⟨8, _⟩ => ⟨S256x1536, .bf16⟩
  | .local _ .vmem, ⟨9, _⟩ => ⟨S256x1536, .bf16⟩
  | .local _ .smem, ⟨0, _⟩ => ⟨S127, .i32⟩
  | .local _ .smem, ⟨1, _⟩ => ⟨S127, .i32⟩
  | .local _ .smem, ⟨2, _⟩ => ⟨S127, .i32⟩
  | .local _ .smem, ⟨3, _⟩ => ⟨S127, .i32⟩
  | .local _ .smem, ⟨4, _⟩ => ⟨S127, .i32⟩
  | .local _ .smem, ⟨5, _⟩ => ⟨S127, .i32⟩
  | _, _ => ⟨S24576x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_v7 : Ref sig .tc := ⟨.hbm, 38, rfl⟩
abbrev main_call2_v8 : Ref sig .tc := ⟨.hbm, 39, rfl⟩
abbrev main_call2_c : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_0 : Ref sig .tc := ⟨.hbm, 44, rfl⟩
abbrev main_call2_v12 : Ref sig .tc := ⟨.hbm, 45, rfl⟩
abbrev main_call2_v13 : Ref sig .tc := ⟨.hbm, 46, rfl⟩
abbrev main_v5 : Ref sig .tc := ⟨.hbm, 47, rfl⟩
abbrev main_c_2 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_5 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_call5_call0_v0 : Ref sig .tc := ⟨.hbm, 69, rfl⟩
abbrev main_call5_call0_v1 : Ref sig .tc := ⟨.hbm, 70, rfl⟩
abbrev main_call5_call0_v2 : Ref sig .tc := ⟨.hbm, 71, rfl⟩
abbrev main_call5_call0_v3 : Ref sig .tc := ⟨.hbm, 72, rfl⟩
abbrev main_call5_call0_v4 : Ref sig .tc := ⟨.hbm, 73, rfl⟩
abbrev main_call5_call0_v5 : Ref sig .tc := ⟨.hbm, 74, rfl⟩
abbrev main_call5_call0_c : Ref sig .tc := ⟨.hbm, 75, rfl⟩
abbrev main_c_6 : Ref sig .tc := ⟨.hbm, 76, rfl⟩
abbrev main_v20 : Ref sig .tc := ⟨.hbm, 77, rfl⟩
abbrev main_v21 : Ref sig .tc := ⟨.hbm, 78, rfl⟩
abbrev main_c_7 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_c_8 : Ref sig .tc := ⟨.hbm, 86, rfl⟩
abbrev main_v28 : Ref sig .tc := ⟨.hbm, 87, rfl⟩
abbrev main_v29 : Ref sig .tc := ⟨.hbm, 88, rfl⟩
abbrev main_c_9 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_v34 : Ref sig .tc := ⟨.hbm, 94, rfl⟩
abbrev main_c_10 : Ref sig .tc := ⟨.hbm, 95, rfl⟩
abbrev main_v35 : Ref sig .tc := ⟨.hbm, 96, rfl⟩
abbrev main_v36 : Ref sig .tc := ⟨.hbm, 97, rfl⟩
abbrev main_c_11 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_c_12 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_c_13 : Ref sig .tc := ⟨.hbm, 114, rfl⟩
abbrev main_v54 : Ref sig .tc := ⟨.hbm, 115, rfl⟩
abbrev main_v55 : Ref sig .tc := ⟨.hbm, 116, rfl⟩
abbrev main_c_14 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_c_15 : Ref sig .tc := ⟨.hbm, 122, rfl⟩
abbrev main_v61 : Ref sig .tc := ⟨.hbm, 123, rfl⟩
abbrev main_v62 : Ref sig .tc := ⟨.hbm, 124, rfl⟩
abbrev main_c_16 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v43 : Ref sig .tc := ⟨.smem, 0, rfl⟩
abbrev main_v19 : Ref sig .tc := ⟨.smem, 1, rfl⟩
abbrev main_v60 : Ref sig .tc := ⟨.smem, 2, rfl⟩
abbrev main_v67 : Ref sig .tc := ⟨.smem, 3, rfl⟩
abbrev main_v53 : Ref sig .tc := ⟨.smem, 4, rfl⟩
abbrev main_v47 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![127], ![false]⟩

abbrev pre0 : Pipeline.Prefetch sig := ⟨6, ![main_v43.idx, main_v19.idx, main_v60.idx, main_v67.idx, main_v53.idx, main_v47.idx], fun | 0 => main_v43.names | 1 => main_v19.names | 2 => main_v60.names | 3 => main_v67.names | 4 => main_v53.names | 5 => main_v47.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v18 : Index := Scalar.indexCast arg0
  ![v18.toNat]
def k0_off3 (i : grid0.Coords) : Fin 1 → Nat :=
  let arg0 : BitVec 32 := BitVec.ofNat 32 (i 0).val
  let v38 : Index := Scalar.indexCast arg0
  ![v38.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond2 (v34 : BitVec 32) : BitVec 1 :=
  let c1_i32_9 : BitVec 32 := 1#32
  let v35 : BitVec 1 := Scalar.cmpi .eq v34 c1_i32_9
  let v36 : BitVec 32 := Scalar.extui v35
  let c0_i32_10 : BitVec 32 := 0#32
  let v37 : BitVec 1 := Scalar.cmpi .ne v36 c0_i32_10
  v37

def k0_cond3 (v39 : BitVec 32) : BitVec 1 :=
  let c0_i32_11 : BitVec 32 := 0#32
  let v40 : BitVec 1 := Scalar.cmpi .eq v39 c0_i32_11
  let v41 : BitVec 32 := Scalar.extui v40
  let c0_i32_12 : BitVec 32 := 0#32
  let v42 : BitVec 1 := Scalar.cmpi .ne v41 c0_i32_12
  v42

def cc0_transform_0 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S127.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S127) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S127.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S127) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24576x2048 : Shape := ⟨2, ![24576, 2048]⟩
abbrev S24576 : Shape := ⟨1, ![24576]⟩
abbrev S32x2048x1536 : Shape := ⟨3, ![32, 2048, 1536]⟩
abbrev S32x1536 : Shape := ⟨2, ![32, 1536]⟩
abbrev S32 : Shape := ⟨1, ![32]⟩
abbrev S_ : Shape := ⟨0, ![]⟩
abbrev S24576x32x1536 : Shape := ⟨3, ![24576, 32, 1536]⟩
abbrev S24576x1 : Shape := ⟨2, ![24576, 1]⟩
abbrev S1x32 : Shape := ⟨2, ![1, 32]⟩
abbrev S24576x32 : Shape := ⟨2, ![24576, 32]⟩
abbrev S24576x32x1 : Shape := ⟨3, ![24576, 32, 1]⟩
abbrev S24576x1536 : Shape := ⟨2, ![24576, 1536]⟩
abbrev S1x24576 : Shape := ⟨2, ![1, 24576]⟩
abbrev S32x1 : Shape := ⟨2, ![32, 1]⟩
abbrev S32x24576 : Shape := ⟨2, ![32, 24576]⟩
abbrev S12x2048x1536 : Shape := ⟨3, ![12, 2048, 1536]⟩

abbrev nBuf : Space → Nat
  | .hbm => 63
  | .vmem => 4
  | .smem => 0
  | _ => 0

abbrev bufTy : (tb : Table) → Fin (tcTables nBuf tb) → BufTy
  | .hbm, ⟨0, _⟩ => ⟨S24576x2048, .fp8e4m3⟩
  | .hbm, ⟨1, _⟩ => ⟨S24576, .f32⟩
  | .hbm, ⟨2, _⟩ => ⟨S32x2048x1536, .fp8e4m3⟩
  | .hbm, ⟨3, _⟩ => ⟨S32x1536, .f32⟩
  | .hbm, ⟨4, _⟩ => ⟨S32, .i32⟩
  | .hbm, ⟨5, _⟩ => ⟨S24576x2048, .f32⟩
  | .hbm, ⟨6, _⟩ => ⟨S32x2048x1536, .f32⟩
  | .hbm, ⟨7, _⟩ => ⟨S_, .i32⟩
  | .hbm, ⟨8, _⟩ => ⟨S_, .i32⟩
  | .hbm, ⟨9, _⟩ => ⟨S32, .i32⟩
  | .hbm, ⟨10, _⟩ => ⟨S24576, .i32⟩
  | .hbm, ⟨11, _⟩ => ⟨S24576x32x1536, .f32⟩
  | .hbm, ⟨12, _⟩ => ⟨S24576x1, .i32⟩
  | .hbm, ⟨13, _⟩ => ⟨S32, .i32⟩
  | .hbm, ⟨14, _⟩ => ⟨S1x32, .i32⟩
  | .hbm, ⟨15, _⟩ => ⟨S24576x32, .i32⟩
  | .hbm, ⟨16, _⟩ => ⟨S24576x32, .i32⟩
  | .hbm, ⟨17, _⟩ => ⟨S24576x32, .i1⟩
  | .hbm, ⟨18, _⟩ => ⟨S24576x1, .i32⟩
  | .hbm, ⟨19, _⟩ => ⟨S1x32, .i32⟩
  | .hbm, ⟨20, _⟩ => ⟨S24576x32, .i32⟩
  | .hbm, ⟨21, _⟩ => ⟨S24576x32, .i32⟩
  | .hbm, ⟨22, _⟩ => ⟨S24576x32, .i1⟩
  | .hbm, ⟨23, _⟩ => ⟨S24576x32, .i1⟩
  | .hbm, ⟨24, _⟩ => ⟨S24576x32x1, .i1⟩
  | .hbm, ⟨25, _⟩ => ⟨S_, .f32⟩
  | .hbm, ⟨26, _⟩ => ⟨S_, .f32⟩
  | .hbm, ⟨27, _⟩ => ⟨S24576x32x1536, .i1⟩
  | .hbm, ⟨28, _⟩ => ⟨S24576x32x1536, .f32⟩
  | .hbm, ⟨29, _⟩ => ⟨S24576x32x1536, .f32⟩
  | .hbm, ⟨30, _⟩ => ⟨S_, .f32⟩
  | .hbm, ⟨31, _⟩ => ⟨S24576x1536, .f32⟩
  | .hbm, ⟨32, _⟩ => ⟨S1x24576, .i32⟩
  | .hbm, ⟨33, _⟩ => ⟨S32x1, .i32⟩
  | .hbm, ⟨34, _⟩ => ⟨S32x24576, .i32⟩
  | .hbm, ⟨35, _⟩ => ⟨S32x24576, .i32⟩
  | .hbm, ⟨36, _⟩ => ⟨S32x24576, .i1⟩
  | .hbm, ⟨37, _⟩ => ⟨S32x24576, .i32⟩
  | .hbm, ⟨38, _⟩ => ⟨S_, .i32⟩
  | .hbm, ⟨39, _⟩ => ⟨S24576, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S24576, .i32⟩
  | .hbm, ⟨44, _⟩ => ⟨S24576, .i32⟩
  | .hbm, ⟨45, _⟩ => ⟨S_, .i32⟩
  | .hbm, ⟨46, _⟩ => ⟨S24576, .i32⟩
  | .hbm, ⟨47, _⟩ => ⟨S24576, .i32⟩
  | .hbm, ⟨48, _⟩ => ⟨S24576x1, .f32⟩
  | .hbm, ⟨49, _⟩ => ⟨S24576x1536, .f32⟩
  | .hbm, ⟨50, _⟩ => ⟨S24576x1536, .f32⟩
  | .hbm, ⟨51, _⟩ => ⟨S_, .i32⟩
  | .hbm, ⟨52, _⟩ => ⟨S24576, .i32⟩
  | .hbm, ⟨53, _⟩ => ⟨S24576, .i1⟩
  | .hbm, ⟨54, _⟩ => ⟨S_, .i32⟩
  | .hbm, ⟨55, _⟩ => ⟨S24576, .i32⟩
  | .hbm, ⟨56, _⟩ => ⟨S24576, .i32⟩
  | .hbm, ⟨57, _⟩ => ⟨S24576, .i32⟩
  | .hbm, ⟨58, _⟩ => ⟨S24576x1, .i32⟩
  | .hbm, ⟨59, _⟩ => ⟨S24576x1536, .f32⟩
  | .hbm, ⟨60, _⟩ => ⟨S24576x1536, .f32⟩
  | .hbm, ⟨61, _⟩ => ⟨S24576x1536, .bf16⟩
  | .hbm, ⟨62, _⟩ => ⟨S12x2048x1536, .bf16⟩
  | .local _ .vmem, ⟨0, _⟩ => ⟨S24576x2048, .fp8e4m3⟩
  | .local _ .vmem, ⟨1, _⟩ => ⟨S32x2048x1536, .fp8e4m3⟩
  | .local _ .vmem, ⟨2, _⟩ => ⟨S24576x2048, .f32⟩
  | .local _ .vmem, ⟨3, _⟩ => ⟨S32x2048x1536, .f32⟩
  | _, _ => ⟨S24576x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_call0_call0_c : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_call2_call0_v0 : Ref sig .tc := ⟨.hbm, 32, rfl⟩
abbrev main_call2_call0_v1 : Ref sig .tc := ⟨.hbm, 33, rfl⟩
abbrev main_call2_call0_v2 : Ref sig .tc := ⟨.hbm, 34, rfl⟩
abbrev main_call2_call0_v3 : Ref sig .tc := ⟨.hbm, 35, rfl⟩
abbrev main_call2_call0_v4 : Ref sig .tc := ⟨.hbm, 36, rfl⟩
abbrev main_call2_call0_v5 : Ref sig .tc := ⟨.hbm, 37, rfl⟩
abbrev main_call2_call0_c : Ref sig .tc := ⟨.hbm, 38, rfl⟩
abbrev main_v19 : Ref sig .tc := ⟨.hbm, 39, rfl⟩
abbrev main_c : Ref sig .tc := ⟨.hbm, 40, rfl⟩
abbrev main_c_1 : Ref sig .tc := ⟨.hbm, 41, rfl⟩
abbrev main_call3_v0 : Ref sig .tc := ⟨.hbm, 42, rfl⟩
abbrev main_call3_v1 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_c_2 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24576x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x2048x1536 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2048x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.BodyBits.lean ====
/- The kernel's body at one grid point: what it leaves in the output block, as a function of the blocks and of the
   table words it reads. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The index of a table's word for grid point `i`. -/
def at127 (i : grid0.Coords) : S127.Idx := fun _ => ⟨(i 0).val, Nat.lt_of_lt_of_le (i 0).isLt (by rename_i a; obtain rfl : a = 0 := Subsingleton.elim _ _; exact Nat.le_refl _)⟩

/-- Each table as the body is handed it: its whole buffer as a memref, and that memref's wholeness. -/
abbrev tbM0 : Memref sig .tc .smem S127 .i32 := Memref.whole main_v43
/-- It is a whole buffer. -/
abbrev htbM0 : tbM0.IsWhole := Memref.isWhole_whole _
/-- The table as a whole buffer. -/
abbrev tbM1 : Memref sig .tc .smem S127 .i32 := Memref.whole main_v19
/-- It is a whole buffer. -/
abbrev htbM1 : tbM1.IsWhole := Memref.isWhole_whole _
/-- The table as a whole buffer. -/
abbrev tbM2 : Memref sig .tc .smem S127 .i32 := Memref.whole main_v60
/-- It is a whole buffer. -/
abbrev htbM2 : tbM2.IsWhole := Memref.isWhole_whole _
/-- The table as a whole buffer. -/
abbrev tbM3 : Memref sig .tc .smem S127 .i32 := Memref.whole main_v67
/-- It is a whole buffer. -/
abbrev htbM3 : tbM3.IsWhole := Memref.isWhole_whole _
/-- The table as a whole buffer. -/
abbrev tbM4 : Memref sig .tc .smem S127 .i32 := Memref.whole main_v53
/-- It is a whole buffer. -/
abbrev htbM4 : tbM4.IsWhole := Memref.isWhole_whole _
/-- The table as a whole buffer. -/
abbrev tbM5 : Memref sig .tc .smem S127 .i32 := Memref.whole main_v47
/-- It is a whole buffer. -/
abbrev htbM5 : tbM5.IsWhole := Memref.isWhole_whole _

/-- A table's buffer on core `c`: its contents type, and it held at half the full share at `f`. -/
abbrev TbBuf (c : Dev nD) {S : Shape} {e : EltTy} (M : Memref sig .tc .smem S e) : Type := Buf (Elt F) (M.view.loc (c : Thread nD τ))
/-- A table's buffer, held at its contents. -/
abbrev tbPt (c : Dev nD) {S : Shape} {e : EltTy} (M : Memref sig .tc .smem S e) (f : TbBuf (F := F) c M) : sProp 𝕄 :=
  M.view.loc (c : Thread nD τ) ↦{fullShare.right} f

/-- What the body leaves in the output block: at a live item that is the first of its tile the product of the blocks, scaled and
    rounded; at a live item that is not, the same in the rows of the item and the block as it was in the others; at an item that
    is not live the block as it was. -/
def bodyOut (wt wlo whi wf wl : BitVec 32) (x0 : Vec F S256x2048 .fp8e4m3) (x1 : Vec F S256x1 .f32) (x2 : Vec F S1x2048x1536 .fp8e4m3)
    (x3 : Vec F S1x1x1536 .f32) (x4 : Vec F S256x1536 .bf16) : Vec F S256x1536 .bf16 :=
  if k0_cond1 wl = 1#1 then
    if k0_cond3 wf = 1#1 then
      k0_pay2 x0 x2 x1 x3 wt wlo whi (if k0_cond2 wf = 1#1 then k0_pay1 x0 x2 x1 x3 else x4)
    else if k0_cond2 wf = 1#1 then k0_pay1 x0 x2 x1 x3 else x4
  else x4

/-- The one index a scalar load at the offset of grid point `i` names is that point's. -/
theorem word_index (i : grid0.Coords) (off : Fin 1 → Nat) (hoff : off 0 = (i 0).val) (hin : ∀ a, off a + S1.size a ≤ S127.size a)
    (h1 : 0 < (Rect.unit (s := S127) off S1.size hin).shape.numel) :
    (Rect.unit (s := S127) off S1.size hin).emb (Shape.Idx.first h1) = at127 i := by
  funext a
  obtain rfl : a = 0 := Subsingleton.elim _ _
  apply Fin.ext
  show off 0 + 1 * 0 = (i 0).val
  omega

/-- The step's place in a table is the step. -/
theorem off1_val (i : grid0.Coords) : k0_off1 i 0 = (i 0).val := by
  have h : (i 0).val < 127 := (i 0).isLt
  show (BitVec.ofNat 32 (i 0).val).toNat = _
  rw [BitVec.toNat_ofNat]; omega
/-- The step's place in a table is the step. -/
theorem off2_val (i : grid0.Coords) : k0_off2 i 0 = (i 0).val := off1_val i
/-- The step's place in a table is the step. -/
theorem off3_val (i : grid0.Coords) : k0_off3 i 0 = (i 0).val := off1_val i

set_option maxHeartbeats 1000000 in
theorem body_run (c : Dev nD) (i : grid0.Coords) (arg7 : Memref sig .tc .vmem S256x2048 .fp8e4m3) (harg7 : arg7.IsWhole) (arg8 : Memref sig .tc .vmem S256x1 .f32) (harg8 : arg8.IsWhole) (arg9 : Memref sig .tc .vmem S1x2048x1536 .fp8e4m3) (harg9 : arg9.IsWhole) (arg10 : Memref sig .tc .vmem S1x1x1536 .f32) (harg10 : arg10.IsWhole) (arg11 : Memref sig .tc .vmem S256x1536 .bf16) (harg11 : arg11.IsWhole)
    (x0 : Vec F S256x2048 .fp8e4m3) (x1 : Vec F S256x1 .f32) (x2 : Vec F S1x2048x1536 .fp8e4m3) (x3 : Vec F S1x1x1536 .f32) (x4 : Vec F S256x1536 .bf16) (xt0 : TbBuf (F := F) c tbM0) (xt1 : TbBuf (F := F) c tbM1) (xt2 : TbBuf (F := F) c tbM2) (xt3 : TbBuf (F := F) c tbM3) (xt4 : TbBuf (F := F) c tbM4) (xt5 : TbBuf (F := F) c tbM5) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ tbPt c tbM0 xt0 ∗ tbPt c tbM1 xt1 ∗ tbPt c tbM2 xt2 ∗ tbPt c tbM3 xt3 ∗ tbPt c tbM4 xt4 ∗ tbPt c tbM5 xt5
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare (bodyOut (xt0 (at127 i)) (xt2 (at127 i)) (xt3 (at127 i)) (xt4 (at127 i)) (xt5 (at127 i)) x0 x1 x2 x3 x4) ∗ tbPt c tbM0 xt0 ∗ tbPt c tbM1 xt1 ∗ tbPt c tbM2 xt2 ∗ tbPt c tbM3 xt3 ∗ tbPt c tbM4 xt4 ∗ tbPt c tbM5 xt5) -∗ K ⟨⟩))
          ⊢ wp frame (wpE (defs₀ (F := F)) Variants.none c none) E (cc0__body i tbM0 htbM0 tbM1 htbM1 tbM2 htbM2 tbM3 htbM3 tbM4 htbM4 tbM5 htbM5 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, HT4, HT5, Hk⟩
    obtain rfl := harg7.eq_unread hf0; obtain rfl := harg8.eq_unread hf1; obtain rfl := harg9.eq_unread hf2; obtain rfl := harg10.eq_unread hf3
    obtain rfl := harg11.eq_unread hf4
    sl_exec
    have e1 : body_run.sl.r c i xt5 = xt5 (at127 i) := congrArg xt5 (word_index i _ (off1_val i) _ _)
    have e2 : body_run.sl.r_4 c i xt4 = xt4 (at127 i) := congrArg xt4 (word_index i _ (off2_val i) _ _)
    have e3 : body_run.sl.r_5 c i xt4 = xt4 (at127 i) := congrArg xt4 (word_index i _ (off3_val i) _ _)
    have e4 : body_run.sl.r_1 c i xt0 = xt0 (at127 i) := congrArg xt0 (word_index i _ (off2_val i) _ _)
    have e5 : body_run.sl.r_2 c i xt2 = xt2 (at127 i) := congrArg xt2 (word_index i _ (off2_val i) _ _)
    have e6 : body_run.sl.r_3 c i xt3 = xt3 (at127 i) := congrArg xt3 (word_index i _ (off2_val i) _ _)
    have a7 : View.readAt (Elt F) arg7.view (Rect.unit (s := S256x2048) ![0, 0] S256x2048.size inb_S256x2048_S256x2048_0_0).toLoadRect (harg7.unread x0) = x0 :=
      (View.readAt_full arg7.view (harg7.unread x0) inb_S256x2048_S256x2048_0_0).trans hf0
    have a8 : View.readAt (Elt F) arg8.view (Rect.unit (s := S256x1) ![0, 0] S256x1.size inb_S256x1_S256x1_0_0).toLoadRect (harg8.unread x1) = x1 :=
      (View.readAt_full arg8.view (harg8.unread x1) inb_S256x1_S256x1_0_0).trans hf1
    have a9 : View.readAt (Elt F) arg9.view (Rect.unit (s := S1x2048x1536) ![0, 0, 0] S1x2048x1536.size inb_S1x2048x1536_S1x2048x1536_0_0_0).toLoadRect (harg9.unread x2) = x2 :=
      (View.readAt_full arg9.view (harg9.unread x2) inb_S1x2048x1536_S1x2048x1536_0_0_0).trans hf2
    have a10 : View.readAt (Elt F) arg10.view (Rect.unit (s := S1x1x1536) ![0, 0, 0] S1x1x1536.size inb_S1x1x1536_S1x1x1536_0_0_0).toLoadRect (harg10.unread x3) = x3 :=
      (View.readAt_full arg10.view (harg10.unread x3) inb_S1x1x1536_S1x1x1536_0_0_0).trans hf3
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      unfold body_run.sl.v43
      rw [e1, e2, e3, e4, e5, e6, a7, a8, a9, a10]
      unfold bodyOut
      split_ifs with h1 h2 h3
      · rw [View.read_writes_full, View.readAt_full, View.read_writes_full]
      · rw [View.read_writes_full, View.readAt_full, hf4]
      · rw [View.read_writes_full]
      · exact hf4
      · exact hf4
    isplitl [HT0]; · iexact HT0
    isplitl [HT1]; · iexact HT1
    isplitl [HT2]; · iexact HT2
    isplitl [HT3]; · iexact HT3
    isplitl [HT4]; · iexact HT4
    iexact HT5

end Cert.Kernel.Run

end
-- ==== Proof.RunBits.lean ====
/- The pipelined call: what each staging buffer holds at each grid point, and that the body keeps it. The tables and arrays are
   those the call finds (`V`); nothing is asked of them but that the blocks the tables name lie inside the arrays (`ok0`) and that
   the words of the tables are in step (`Sched`). -/
module

public import proofs.«01_k».proof.Proof.BodyBits

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tables' contents when the call is reached. -/
def tbl : pre0.Contents (Elt F) := fun j => V (0 : Dev nD) (pre0.ref j)
/-- On every device the tables hold those contents (there is one device). -/
theorem V_pre (c : Dev nD) (j : Fin 6) : V c (pre0.ref j) = tbl V j := by
  obtain rfl : c = 0 := Subsingleton.elim _ _; rfl
/-- Every block that the tables name lies inside its array. -/
abbrev Ok : Prop := ok0 (F := F) (tbl V)
/-- The tables, as admitted. -/
abbrev adm (hO : Ok V) : (pcfg0 (F := F)).Adm := ⟨tbl V, hO⟩
/-- The pipeline at these tables. -/
abbrev cfgM (hO : Ok V) : Pipeline.Cfg sig Λ₀ := cfg0 (adm V hO)

/-- The word of table `k` for grid point `t`. -/
abbrev wTile (t : Fin grid0.N) : BitVec 32 := (tbl V 0 : S127.Idx → BitVec 32) (at127 (grid0.coords t))
/-- The word for the group's first row, at a step. -/
abbrev wLo (t : Fin grid0.N) : BitVec 32 := (tbl V 2 : S127.Idx → BitVec 32) (at127 (grid0.coords t))
/-- The word for the group's end, at a step. -/
abbrev wHi (t : Fin grid0.N) : BitVec 32 := (tbl V 3 : S127.Idx → BitVec 32) (at127 (grid0.coords t))
/-- The word for a first visit, at a step. -/
abbrev wFirst (t : Fin grid0.N) : BitVec 32 := (tbl V 4 : S127.Idx → BitVec 32) (at127 (grid0.coords t))
/-- The word for a live item, at a step. -/
abbrev wLive (t : Fin grid0.N) : BitVec 32 := (tbl V 5 : S127.Idx → BitVec 32) (at127 (grid0.coords t))

/-- The tables are in step: the first item is live and the first of its tile; an item that is not the first of its tile has the
    tile of the item before it; an item that is not live is not the first of its tile. -/
structure Sched : Prop where
  live0 : ∀ t : Fin grid0.N, t.val = 0 → wLive V t = 1#32
  first0 : ∀ t : Fin grid0.N, t.val = 0 → wFirst V t = 1#32
  bit : ∀ t, wFirst V t = 0#32 ∨ wFirst V t = 1#32
  same : ∀ (t : Fin grid0.N) (h : t.val + 1 < grid0.N), wFirst V ⟨t.val + 1, h⟩ = 0#32 → wTile V ⟨t.val + 1, h⟩ = wTile V t
  dead : ∀ t, wLive V t ≠ 1#32 → wFirst V t = 0#32

/-- The tables' halves the call hands the body, table by table. -/
theorem PhiT_eq (c : Dev nD) : (Pipeline.ΦT pre0 (tbl V) c : sProp 𝕄) = iprop(tbPt c tbM0 (tbl V 0) ∗ tbPt c tbM1 (tbl V 1) ∗ tbPt c tbM2 (tbl V 2) ∗ tbPt c tbM3 (tbl V 3) ∗ tbPt c tbM4 (tbl V 4) ∗ tbPt c tbM5 (tbl V 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-- Window `w`'s block at point `t`, read off its array as the call finds it. -/
def iblk (hO : Ok V) (c : Dev nD) (w : Fin (cfgM V hO).W) (t : Fin (cfgM V hO).N) : (((cfgM V hO).win w).xblock ((cfgM V hO).grid.coords t)).Idx → Elt F ((cfgM V hO).win w).elt :=
  (((cfgM V hO).win w).blk t).view.read (Elt F) (V c (Pipeline.arrRef spec0 w))

/-- An input window's current staging buffer holds its block at every point, fetched there or not. -/
theorem before_of_0 (hO : Ok V) {c : Dev nD} (dat : Dat τ (Elt F) Unit ℕ (UR sig nD τ) ℕ (cfgM V hO) c) (hA : dat.A 0 = V c (Pipeline.arrRef spec0 0))
    (hafter : ∀ t, dat.after 0 t = iblk V hO c 0 t) (t : Fin (cfgM V hO).N) (d) : dat.before 0 t d = iblk V hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before a step this window holds its block of the array. -/
theorem before_of_1 (hO : Ok V) {c : Dev nD} (dat : Dat τ (Elt F) Unit ℕ (UR sig nD τ) ℕ (cfgM V hO) c) (hA : dat.A 1 = V c (Pipeline.arrRef spec0 1))
    (hafter : ∀ t, dat.after 1 t = iblk V hO c 1 t) (t : Fin (cfgM V hO).N) (d) : dat.before 1 t d = iblk V hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before a step this window holds its block of the array. -/
theorem before_of_2 (hO : Ok V) {c : Dev nD} (dat : Dat τ (Elt F) Unit ℕ (UR sig nD τ) ℕ (cfgM V hO) c) (hA : dat.A 2 = V c (Pipeline.arrRef spec0 2))
    (hafter : ∀ t, dat.after 2 t = iblk V hO c 2 t) (t : Fin (cfgM V hO).N) (d) : dat.before 2 t d = iblk V hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Before a step this window holds its block of the array. -/
theorem before_of_3 (hO : Ok V) {c : Dev nD} (dat : Dat τ (Elt F) Unit ℕ (UR sig nD τ) ℕ (cfgM V hO) c) (hA : dat.A 3 = V c (Pipeline.arrRef spec0 3))
    (hafter : ∀ t, dat.after 3 t = iblk V hO c 3 t) (t : Fin (cfgM V hO).N) (d) : dat.before 3 t d = iblk V hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- One step of the output block: what the body at point `t` makes of the block it finds. -/
def outStep (hO : Ok V) (c : Dev nD) (t : Fin grid0.N) (x4 : Vec F S256x1536 .bf16) : Vec F S256x1536 .bf16 :=
  bodyOut (wTile V t) (wLo V t) (wHi V t) (wFirst V t) (wLive V t) (iblk V hO c 0 t) (iblk V hO c 1 t) (iblk V hO c 2 t) (iblk V hO c 3 t) x4

/-- The output block after the body at point `n`: the steps from the first point on (the first finds nothing it keeps). -/
def outAt (hO : Ok V) (c : Dev nD) : (n : ℕ) → n < grid0.N → Vec F S256x1536 .bf16
  | 0, h => k0_pay1 (iblk V hO c 0 ⟨0, h⟩) (iblk V hO c 2 ⟨0, h⟩) (iblk V hO c 1 ⟨0, h⟩) (iblk V hO c 3 ⟨0, h⟩)
  | n + 1, h => outStep V hO c ⟨n + 1, h⟩ (outAt hO c n (Nat.lt_of_succ_lt h))

/-- The proof data of the call on core `c`: the arrays as the call finds them; after the body at point `t` each input's buffer at its
    block and the output's at `outAt`; the tables held throughout; nothing owed; full shares. -/
def dats (hO : Ok V) (_ : Fin 1) (c : Dev nD) : Dat τ (Elt F) Unit ℕ (UR sig nD τ) ℕ (cfgM V hO) c where
  A w := V c (Pipeline.arrRef spec0 w)
  after w t := match w with
    | ⟨0, _⟩ => iblk V hO c 0 t
    | ⟨1, _⟩ => iblk V hO c 1 t
    | ⟨2, _⟩ => iblk V hO c 2 t
    | ⟨3, _⟩ => iblk V hO c 3 t
    | ⟨4, _⟩ => outAt V hO c t.val t.isLt
  Φ _ := iprop(Pipeline.ΦA spec0 c ∗ Pipeline.ΦT pre0 (tbl V) c)
  q _ := fullShare
  owed _ := 0

/-- The arrays at the start are what the host lines left. -/
theorem A_eq (hO : Ok V) (c : Dev nD) (w : Fin (cfgM V hO).W) : (dats V hO 0 c).A w = V c (Pipeline.arrRef spec0 w) := by
  dsimp only [dats]

/-- What this window holds after a step. -/
theorem after_0 (hO : Ok V) (c : Dev nD) (t : Fin (cfgM V hO).N) : (dats V hO 0 c).after 0 t = iblk V hO c 0 t := by dsimp only [dats]; try rfl
/-- What this window holds after a step. -/
theorem after_1 (hO : Ok V) (c : Dev nD) (t : Fin (cfgM V hO).N) : (dats V hO 0 c).after 1 t = iblk V hO c 1 t := by dsimp only [dats]; try rfl
/-- What this window holds after a step. -/
theorem after_2 (hO : Ok V) (c : Dev nD) (t : Fin (cfgM V hO).N) : (dats V hO 0 c).after 2 t = iblk V hO c 2 t := by dsimp only [dats]; try rfl
/-- What this window holds after a step. -/
theorem after_3 (hO : Ok V) (c : Dev nD) (t : Fin (cfgM V hO).N) : (dats V hO 0 c).after 3 t = iblk V hO c 3 t := by dsimp only [dats]; try rfl
/-- What this window holds after a step. -/
theorem after_4 (hO : Ok V) (c : Dev nD) (t : Fin (cfgM V hO).N) : (dats V hO 0 c).after 4 t = outAt V hO c t.val t.isLt := by dsimp only [dats]; try rfl

/-- What this window holds before a step. -/
theorem before_0 (hO : Ok V) (c : Dev nD) (t : Fin (cfgM V hO).N) (d) : (dats V hO 0 c).before 0 t d = iblk V hO c 0 t :=
  before_of_0 V hO (dats V hO 0 c) (A_eq V hO c 0) (after_0 V hO c) t d
/-- What this window holds before a step. -/
theorem before_1 (hO : Ok V) (c : Dev nD) (t : Fin (cfgM V hO).N) (d) : (dats V hO 0 c).before 1 t d = iblk V hO c 1 t :=
  before_of_1 V hO (dats V hO 0 c) (A_eq V hO c 1) (after_1 V hO c) t d
/-- What this window holds before a step. -/
theorem before_2 (hO : Ok V) (c : Dev nD) (t : Fin (cfgM V hO).N) (d) : (dats V hO 0 c).before 2 t d = iblk V hO c 2 t :=
  before_of_2 V hO (dats V hO 0 c) (A_eq V hO c 2) (after_2 V hO c) t d
/-- What this window holds before a step. -/
theorem before_3 (hO : Ok V) (c : Dev nD) (t : Fin (cfgM V hO).N) (d) : (dats V hO 0 c).before 3 t d = iblk V hO c 3 t :=
  before_of_3 V hO (dats V hO 0 c) (A_eq V hO c 3) (after_3 V hO c) t d

/-! ## Where the output window is idle and where it is written back -/

/-- The test for a live item. -/
theorem cond1_iff (w : BitVec 32) : k0_cond1 w = 1#1 ↔ w = 1#32 := by
  unfold k0_cond1
  constructor
  · intro h; by_contra hw; revert h; simp [Scalar.cmpi, Scalar.extui, IntOp.cmpi, beq_false_of_ne hw]
  · rintro rfl; decide
/-- The test for a first visit. -/
theorem cond2_iff (w : BitVec 32) : k0_cond2 w = 1#1 ↔ w = 1#32 := cond1_iff w
/-- The test for a later visit. -/
theorem cond3_iff (w : BitVec 32) : k0_cond3 w = 1#1 ↔ w = 0#32 := by
  unfold k0_cond3
  constructor
  · intro h; by_contra hw; revert h; simp [Scalar.cmpi, Scalar.extui, IntOp.cmpi, beq_false_of_ne hw]
  · rintro rfl; decide

/-- The table's word the idle table reads at point `t`. -/
theorem atD_word (k : Fin 6) (x : S127.Idx → BitVec 32) (i : grid0.Coords) (off : Fin 1 → Nat) (hoff : off 0 = (i 0).val) :
    (if h : ∀ a, off a + 1 ≤ S127.size a then x (fun a => ⟨off a, h a⟩) else default) = x (at127 i) := by
  have hi : (i 0).val < 127 := (i 0).isLt
  have h : ∀ a, off a + 1 ≤ S127.size a := fun a => by
    obtain rfl : a = 0 := Subsingleton.elim _ _
    show off 0 + 1 ≤ 127; omega
  rw [dif_pos h]
  congr 1; funext a
  obtain rfl : a = 0 := Subsingleton.elim _ _
  exact Fin.ext hoff

/-- At a point where the output window is idle the item is not live, and so not the first of its tile. -/
theorem idle_of (hO : Ok V) (hS : Sched V) (t : Fin (cfgM V hO).N) (hi : (cfgM V hO).idle 4 ((cfgM V hO).grid.coords t) = true) : wFirst V t = 0#32 ∧ wLive V t ≠ 1#32 := by
  have e5 : (tbl V).atD 5 (k0_off1 (grid0.coords t)) = wLive V t := atD_word 5 (tbl V 5) (grid0.coords t) _ (off1_val _)
  have e4 : (tbl V).atD 4 (k0_off2 (grid0.coords t)) = wFirst V t := atD_word 4 (tbl V 4) (grid0.coords t) _ (off2_val _)
  have e3 : (tbl V).atD 4 (k0_off3 (grid0.coords t)) = wFirst V t := atD_word 4 (tbl V 4) (grid0.coords t) _ (off3_val _)
  have h : (!(k0_cond1 ((tbl V).atD 5 (k0_off1 (grid0.coords t))) == 1#1 && k0_cond2 ((tbl V).atD 4 (k0_off2 (grid0.coords t))) == 1#1)
      && !(k0_cond1 ((tbl V).atD 5 (k0_off1 (grid0.coords t))) == 1#1 && k0_cond3 ((tbl V).atD 4 (k0_off3 (grid0.coords t))) == 1#1)) = true := hi
  rw [e5, e4, e3] at h
  have hl : wLive V t ≠ 1#32 := by
    intro hl
    rcases hS.bit t with h0 | h1
    · rw [hl, h0] at h; revert h; decide
    · rw [hl, h1] at h; revert h; decide
  exact ⟨hS.dead t hl, hl⟩

/-- The output block's number at a point is the word of the tile table. -/
theorem index_4 (hO : Ok V) (t : Fin (cfgM V hO).N) : ((cfgM V hO).win 4).index t = ![(wTile V t).toNat, 0] := by
  show cc0_transform_4 _ _ (tbl V) (grid0.coords t) = _
  unfold cc0_transform_4
  have e : (tbl V).at 0 (Rect.unit (s := S127) (k0_off1 (grid0.coords t)) S1.size (Facts₀.k0_off1_inb _)) Facts₀.numel1_S1 = wTile V t :=
    congrArg (tbl V 0) (word_index (grid0.coords t) _ (off1_val _) _ _)
  exact congrArg (fun w : BitVec 32 => (![w.toNat, 0] : Fin 2 → ℕ)) e

/-- Where the next point has the same tile, the output block is not written back. -/
theorem flush_false (hO : Ok V) (t : Fin (cfgM V hO).N) (h : t.val + 1 < grid0.N) (e : wTile V ⟨t.val + 1, h⟩ = wTile V t) : ((cfgM V hO).win 4).flush t = false := by
  unfold Pipeline.Window.flush
  have h1 : ¬ (t.val + 1 = (cfgM V hO).grid.N) := fun h' => absurd h (by rw [h']; exact Nat.lt_irrefl _)
  have h2 : ¬ (∃ h : t.val + 1 < (cfgM V hO).grid.N, ((cfgM V hO).win 4).index ⟨t.val + 1, h⟩ ≠ ((cfgM V hO).win 4).index t) := by
    rintro ⟨h', hne⟩
    refine hne ?_
    rw [index_4, index_4]
    exact congrArg (fun w : BitVec 32 => (![w.toNat, 0] : Fin 2 → ℕ)) e
  rw [decide_eq_false h1, decide_eq_false h2]
  simp

/-- At an item that is not the first of its tile the output buffer still holds what the item before it left. -/
theorem fresh_false (hO : Ok V) (hS : Sched V) : ∀ (n : ℕ) (h : n < grid0.N), wFirst V ⟨n, h⟩ = 0#32 → (cfgM V hO).fresh 4 n = false
  | 0, h, h0 => by
    have := hS.first0 ⟨0, h⟩ rfl
    rw [this] at h0; exact absurd h0 (by decide)
  | n + 1, h, h0 => by
    have hn : n < grid0.N := Nat.lt_of_succ_lt h
    rw [(cfgM V hO).fresh_succ 4 n hn, flush_false V hO ⟨n, hn⟩ h (hS.same ⟨n, hn⟩ h h0), Bool.false_or]
    cases hi : (cfgM V hO).idle 4 ((cfgM V hO).grid.coords ⟨n, hn⟩) with
    | false => rfl
    | true => rw [fresh_false hO hS n hn (idle_of V hO hS ⟨n, hn⟩ hi).1]; rfl

/-- A step at an item that is not live changes nothing. -/
theorem outStep_dead (hO : Ok V) (c : Dev nD) (t : Fin grid0.N) (x4) (h : wLive V t ≠ 1#32) : outStep V hO c t x4 = x4 := by
  unfold outStep bodyOut
  rw [if_neg (fun h' => h ((cond1_iff _).1 h'))]

/-- A step at a live first item does not read the block it finds. -/
theorem outStep_first (hO : Ok V) (c : Dev nD) (t : Fin grid0.N) (x4) (h : wLive V t = 1#32) (h1 : wFirst V t = 1#32) :
    outStep V hO c t x4 = k0_pay1 (iblk V hO c 0 t) (iblk V hO c 2 t) (iblk V hO c 1 t) (iblk V hO c 3 t) := by
  unfold outStep bodyOut
  rw [h, h1]
  rw [if_pos (by decide), if_neg (by decide), if_pos (by decide)]

/-- A step at a live item that is not the first of its tile: the masked store. -/
theorem outStep_next (hO : Ok V) (c : Dev nD) (t : Fin grid0.N) (x4) (h : wLive V t = 1#32) (h1 : wFirst V t = 0#32) :
    outStep V hO c t x4 = k0_pay2 (iblk V hO c 0 t) (iblk V hO c 2 t) (iblk V hO c 1 t) (iblk V hO c 3 t) (wTile V t) (wLo V t) (wHi V t) x4 := by
  unfold outStep bodyOut
  rw [h, h1]
  rw [if_pos (by decide), if_pos (by decide), if_neg (by decide)]

/-- The first step writes the whole tile. -/
theorem outAt_zero (hO : Ok V) (c : Dev nD) (h : 0 < grid0.N) : outAt V hO c 0 h = k0_pay1 (iblk V hO c 0 ⟨0, h⟩) (iblk V hO c 2 ⟨0, h⟩) (iblk V hO c 1 ⟨0, h⟩) (iblk V hO c 3 ⟨0, h⟩) := rfl
/-- A later step starts from what the one before left. -/
theorem outAt_succ (hO : Ok V) (c : Dev nD) (n : ℕ) (h : n + 1 < grid0.N) : outAt V hO c (n + 1) h = outStep V hO c ⟨n + 1, h⟩ (outAt V hO c n (Nat.lt_of_succ_lt h)) := rfl

/-- At an item that is not the first of its tile the body finds what the step before left. -/
theorem before_4 (hO : Ok V) (hS : Sched V) (c : Dev nD) (t : Fin (cfgM V hO).N) (d) (h0 : wFirst V t = 0#32) :
    ∃ (n : ℕ) (h : n + 1 < grid0.N), t = ⟨n + 1, h⟩ ∧ (dats V hO 0 c).before 4 t d = outAt V hO c n (Nat.lt_of_succ_lt h) := by
  have hcarry : ∀ (t : Fin (cfgM V hO).N) (_ : t.val ≠ 0), (cfgM V hO).idle 4 ((cfgM V hO).grid.coords t) = true → (cfgM V hO).fresh 4 t.val = false →
      (dats V hO 0 c).after 4 t = (dats V hO 0 c).after 4 ⟨t.val - 1, by omega⟩ := by
    intro t ht hi _
    rw [after_4, after_4]
    obtain ⟨n, hn⟩ := t
    cases n with
    | zero => exact absurd rfl ht
    | succ n =>
      show outAt V hO c (n + 1) hn = _
      rw [outAt_succ, outStep_dead V hO c _ _ (idle_of V hO hS ⟨n + 1, hn⟩ hi).2]
      rfl
  obtain ⟨n, hn⟩ := t
  cases n with
  | zero =>
    have := hS.first0 ⟨0, hn⟩ rfl
    exact absurd (this.symm.trans h0) (by decide)
  | succ n =>
    refine ⟨n, hn, rfl, ?_⟩
    rw [(dats V hO 0 c).before_out_traj 4 rfl (fun _ _ => rfl) hcarry (n + 1) ⟨n + 1, hn⟩ rfl d, fresh_false V hO hS (n + 1) hn h0, if_neg Bool.false_ne_true, after_4]
    rfl

/-- What the body makes of what it finds is the trajectory's block. -/
theorem step_eq (hO : Ok V) (hS : Sched V) (c : Dev nD) (t : Fin (cfgM V hO).N) (d) : outStep V hO c t ((dats V hO 0 c).before 4 t d) = outAt V hO c t.val t.isLt := by
  rcases hS.bit t with h0 | h1
  · obtain ⟨n, h, rfl, e⟩ := before_4 V hO hS c t d h0
    rw [e]; exact (outAt_succ V hO c n h).symm
  · have hl : wLive V t = 1#32 := by
      by_contra hl
      exact absurd ((hS.dead t hl).symm.trans h1) (by decide)
    refine (outStep_first V hO c t _ hl h1).trans ?_
    obtain ⟨n, hn⟩ := t
    cases n with
    | zero => exact (outAt_zero V hO c hn).symm
    | succ n =>
      show _ = outAt V hO c (n + 1) hn
      rw [outAt_succ, outStep_first V hO c _ _ hl h1]

/-! ## The body obligation -/

/-- The staging buffer of this window at a step. -/
abbrev ms_0 (hO : Ok V) (t : Fin (cfgM V hO).N) := spec0_0.stage ((cfgM V hO).slots t 0)
/-- The staging buffer of this window at a step. -/
abbrev ms_1 (hO : Ok V) (t : Fin (cfgM V hO).N) := spec0_1.stage ((cfgM V hO).slots t 1)
/-- The staging buffer of this window at a step. -/
abbrev ms_2 (hO : Ok V) (t : Fin (cfgM V hO).N) := spec0_2.stage ((cfgM V hO).slots t 2)
/-- The staging buffer of this window at a step. -/
abbrev ms_3 (hO : Ok V) (t : Fin (cfgM V hO).N) := spec0_3.stage ((cfgM V hO).slots t 3)
/-- The staging buffer of this window at a step. -/
abbrev ms_4 (hO : Ok V) (t : Fin (cfgM V hO).N) := spec0_4.stage ((cfgM V hO).slots t 4)

/-- The body at point `t`, on what the pipeline calls it with. -/
abbrev bodyAt (hO : Ok V) (t : Fin (cfgM V hO).N) : Prog (TpuEff nD τ sig (Elt F) Λ₀ .tc) PUnit :=
  cc0__body (grid0.coords t) tbM0 htbM0 tbM1 htbM1 tbM2 htbM2 tbM3 htbM3 tbM4 htbM4 tbM5 htbM5 (ms_0 V hO t) (hstage0_0 (((cfgM V hO).slots t 0).cast nbuf0_0)) (ms_1 V hO t) (hstage0_1 (((cfgM V hO).slots t 1).cast nbuf0_1)) (ms_2 V hO t) (hstage0_2 (((cfgM V hO).slots t 2).cast nbuf0_2)) (ms_3 V hO t) (hstage0_3 (((cfgM V hO).slots t 3).cast nbuf0_3)) (ms_4 V hO t) (hstage0_4 (((cfgM V hO).slots t 4).cast nbuf0_4))

/-- What the body is called with at point `t`, the windows one by one, -/
def bodyPre (hO : Ok V) (c : Dev nD) (t : Fin (cfgM V hO).N) : sProp 𝕄 :=
  iprop((dats V hO 0 c).Φ t.castSucc ∗ (dats V hO 0 c).owesAt () t.castSucc
    ∗ (∃ d, owns (c : Thread nD τ) (ms_0 V hO t) fullShare ((dats V hO 0 c).before 0 t d))
    ∗ (∃ d, owns (c : Thread nD τ) (ms_1 V hO t) fullShare ((dats V hO 0 c).before 1 t d))
    ∗ (∃ d, owns (c : Thread nD τ) (ms_2 V hO t) fullShare ((dats V hO 0 c).before 2 t d))
    ∗ (∃ d, owns (c : Thread nD τ) (ms_3 V hO t) fullShare ((dats V hO 0 c).before 3 t d))
    ∗ (∃ d, owns (c : Thread nD τ) (ms_4 V hO t) fullShare ((dats V hO 0 c).before 4 t d)))

/-- what it returns of the output window: where that window is idle and not written back, what the body found; elsewhere the
    trajectory's block -/
def outPost (hO : Ok V) (c : Dev nD) (t : Fin (cfgM V hO).N) : sProp 𝕄 :=
  match (cfgM V hO).idle 4 ((cfgM V hO).grid.coords t) with
  | true =>
    match ((cfgM V hO).win 4).flush t with
    | false => iprop(∃ d, owns (c : Thread nD τ) (ms_4 V hO t) fullShare ((dats V hO 0 c).before 4 t d))
    | true => owns (c : Thread nD τ) (ms_4 V hO t) fullShare ((dats V hO 0 c).after 4 t)
  | false => owns (c : Thread nD τ) (ms_4 V hO t) fullShare ((dats V hO 0 c).after 4 t)

/-- and what it returns. -/
def bodyPost (hO : Ok V) (c : Dev nD) (t : Fin (cfgM V hO).N) : sProp 𝕄 :=
  iprop((dats V hO 0 c).Φ t.succ ∗ (dats V hO 0 c).owesAt () t.succ
    ∗ owns (c : Thread nD τ) (ms_0 V hO t) fullShare ((dats V hO 0 c).after 0 t)
    ∗ owns (c : Thread nD τ) (ms_1 V hO t) fullShare ((dats V hO 0 c).after 1 t)
    ∗ owns (c : Thread nD τ) (ms_2 V hO t) fullShare ((dats V hO 0 c).after 2 t)
    ∗ owns (c : Thread nD τ) (ms_3 V hO t) fullShare ((dats V hO 0 c).after 3 t)
    ∗ outPost V hO c t)

/-- The trajectory's block is what the obligation asks of the output window. -/
theorem outPost_of (hO : Ok V) (hS : Sched V) (c : Dev nD) (t : Fin (cfgM V hO).N) :
    owns (c : Thread nD τ) (ms_4 V hO t) fullShare ((dats V hO 0 c).after 4 t) ⊢ outPost V hO c t := by
  unfold outPost
  cases hi : (cfgM V hO).idle 4 ((cfgM V hO).grid.coords t) with
  | false => exact .rfl
  | true =>
    cases hf : ((cfgM V hO).win 4).flush t with
    | true => exact .rfl
    | false =>
      obtain ⟨h0, hl⟩ := idle_of V hO hS t hi
      have e : ∀ d, (dats V hO 0 c).after 4 t = (dats V hO 0 c).before 4 t d := fun d => by
        rw [after_4, ← step_eq V hO hS c t d]
        exact outStep_dead V hO c t _ hl
      dsimp only
      iintro H
      iexists (dats V hO 0 c).after 4 t
      rw [← e]
      iexact H

/-- The body at any point. -/
theorem sound_body (hO : Ok V) (hS : Sched V) (c : Dev nD) (t : Fin (cfgM V hO).N) :
    bodyPre V hO c t ⊢ wp frame (wpE (defs₀ (F := F)) Variants.none c none) Set.univ (bodyAt V hO t) (fun _ => bodyPost V hO c t) := by
  unfold bodyPre bodyPost bodyAt
  simp only [before_0, before_1, before_2, before_3]
  rw [show (dats V hO 0 c).Φ t.succ = (dats V hO 0 c).Φ t.castSucc from rfl,
    show (dats V hO 0 c).owesAt () t.succ = (dats V hO 0 c).owesAt () t.castSucc from rfl,
    after_0, after_1, after_2, after_3]
  rw [show (dats V hO 0 c).Φ t.castSucc = iprop(Pipeline.ΦA spec0 c ∗ Pipeline.ΦT pre0 (tbl V) c) from rfl, PhiT_eq]
  iintro ⟨⟨HΦ, ⟨HT0, HT1, HT2, HT3, HT4, HT5⟩⟩, Ho, ⟨%d0, H0⟩, ⟨%d1, H1⟩, ⟨%d2, H2⟩, ⟨%d3, H3⟩, ⟨%d4, H4⟩⟩
  iapply ((body_run c (grid0.coords t) _ _ _ _ _ _ _ _ _ _ (iblk V hO c 0 t) (iblk V hO c 1 t) (iblk V hO c 2 t) (iblk V hO c 3 t) ((dats V hO 0 c).before 4 t d4) (tbl V 0) (tbl V 1) (tbl V 2) (tbl V 3) (tbl V 4) (tbl V 5)) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  isplitl [HT5]; · iexact HT5
  iintro ⟨H0, H1, H2, H3, H4, HT0, HT1, HT2, HT3, HT4, HT5⟩
  isplitl [HΦ HT0 HT1 HT2 HT3 HT4 HT5]
  · isplitl [HΦ]
    · iexact HΦ
    isplitl [HT0]; · iexact HT0
    isplitl [HT1]; · iexact HT1
    isplitl [HT2]; · iexact HT2
    isplitl [HT3]; · iexact HT3
    isplitl [HT4]; · iexact HT4
    iexact HT5
  isplitl [Ho]; · iexact Ho
  isplitl [H0]; · iexact H0
  isplitl [H1]; · iexact H1
  isplitl [H2]; · iexact H2
  isplitl [H3]; · iexact H3
  iapply (outPost_of V hO hS c t)
  rw [after_4, ← step_eq V hO hS c t d4]
  iexact H4

/-- The body table's row at point `t`'s slots is the body as `bodyAt` spells it. -/
theorem defs₀_row (hO : Ok V) (t : Fin (cfgM V hO).N) :
    defs₀ (F := F) .tc (cfgM V hO).body ((cfgM V hO).bodyArgs t ((cfgM V hO).slots t)) = bodyAt V hO t := by
  unfold defs₀; rw [Defs.onTc_tc]

/-- The library's body obligation, at every point. -/
theorem body_obligation (hO : Ok V) (hS : Sched V) (c : Dev nD) : BodyObligation (dats (F := F) V hO 0 c) (defs₀ (F := F)) Variants.none () Set.univ := fun t => by
  rw [bigSep_W0, bigSep_W0, defs₀_row V hO]
  exact triple_restated (sound_body V hO hS c t) rfl .rfl fun _ => .rfl

end Cert.Kernel.Run

end
-- ==== Proof.LaunchBits.lean ====
/- The launch: the host lines that compute the tables, the pipelined call, the reshape after it. The run ends with the result the
   reshaped output array and every argument unchanged, under the two conditions on the tables. -/
module

public import proofs.«01_k».proof.Proof.RunBits
public import Idealize.ShloMosaic.Lib.Pipeline.FrameSuffix
public import Idealize.ShloMosaic.Lib.Claim
public import Idealize.ShloMosaic.Lib.StableHlo.RunRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The host lines before the call. -/
abbrev hostLines : List (List (HloOp τ sig (Elt F))) :=
  [hostOps0, hostOps0_1, hostOps0_2, hostOps0_3, hostOps0_4, hostOps0_5, hostOps0_6, hostOps0_7, hostOps0_8, hostOps0_9, hostOps0_10]

variable (m : (ℓ : Loc nD τ sig) → Buf (Elt F) ℓ) (ρ : Dev nD → PrngReg)

/-- What core `c`'s buffers hold when the call is reached. -/
def entryV (c : Dev nD) : Valuation τ sig (Elt F) := StableHlo.after (hostLines (F := F)).flatten (fun b => m (c, b))
/-- The same, buffer by buffer. -/
def Vm (c : Dev nD) (b : Ref sig .tc) : Buf (Elt F) ((c : Thread nD τ).loc b) := entryV m c (Proc.devRef .tc b)

/-- The host lines touch only the buffers of the core. -/
theorem lines_sub : (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

/-- The host lines allocate nothing. -/
theorem lines_fresh : (hostLines (F := F)).Forall fun ops => ops.Forall fun op => op.fresh = ∅ := by
  simp only [List.Forall]; repeat' constructor

/-- The program reduces to the call continued by the reshape. -/
theorem hmain : Pipeline.HMainPK (Ix := Unit) (Name := ℕ) (U := UR sig nD τ) (Lvl := ℕ) (pcfgs (F := F)) 0 defs₀ Variants.none m main
    (fun c b => entryV m c (Proc.devRef .tc b)) (fun _ => Pipeline.chain ([hostOps1 (F := F)].map StableHlo.seq)) :=
  Pipeline.hmainP_around pcfgs 0 defs₀ Variants.none m main hostLines [hostOps1] lines_sub lines_fresh main_chain

/-- No host line writes an argument. -/
theorem V_main_arg0 (c : Dev nD) : Vm m c main_arg0 = m ((c : Thread nD τ).loc main_arg0) := by
  unfold Vm entryV; after_reads_simp
/-- The host lines leave this argument as it was. -/
theorem V_main_arg1 (c : Dev nD) : Vm m c main_arg1 = m ((c : Thread nD τ).loc main_arg1) := by
  unfold Vm entryV; after_reads_simp
/-- The host lines leave this argument as it was. -/
theorem V_main_arg2 (c : Dev nD) : Vm m c main_arg2 = m ((c : Thread nD τ).loc main_arg2) := by
  unfold Vm entryV; after_reads_simp
/-- The host lines leave this argument as it was. -/
theorem V_main_arg3 (c : Dev nD) : Vm m c main_arg3 = m ((c : Thread nD τ).loc main_arg3) := by
  unfold Vm entryV; after_reads_simp
/-- The host lines leave this argument as it was. -/
theorem V_main_arg4 (c : Dev nD) : Vm m c main_arg4 = m ((c : Thread nD τ).loc main_arg4) := by
  unfold Vm entryV; after_reads_simp

/-- The output array after the call. -/
abbrev outArr (hO : Ok (Vm m)) (c : Dev nD) : Vec F S24576x1536 .bf16 := (dats (Vm m) hO 0 c).arrAt 4 (cfgM (Vm m) hO).N

set_option backward.isDefEq.respectTransparency.types false in
/-- The launch. -/
theorem run_main (hO : Ok (Vm m)) (hS : Sched (Vm m)) : θ_run defs (onTc (τ := τ) (main (F := F))) (s₀ m ρ)
    (fun r => Pipeline.FramePost (Pipeline.pin pcfgs fun _ => adm (Vm m) hO) (dats (Vm m) hO) 0 (Pipeline.afterTail pcfgs (fun _ => adm (Vm m) hO) (dats (Vm m) hO) 0 (entryV m) [hostOps1]) r ∧ r.2.sem = fun _ => 0) :=
  Pipeline.θ_run_frameP_around pcfgs (fun _ => adm (Vm m) hO) (dats (Vm m) hO) (0 : Fin 1) launch0 defs₀ Variants.none m ρ main
    (hbody := fun c => (body_obligation (Vm m) hO hS c).loose) (hshare := fun c => (dats (Vm m) hO 0 c).share_full fun _ => rfl)
    (howed := fun _ _ => rfl) (V₀ := entryV m) (opss := [hostOps1])
    (hsub := by
      intro ops ho op h
      obtain rfl := List.mem_singleton.1 ho
      obtain rfl := List.mem_singleton.1 h
      exact Pipeline.sub_tailRefs _ _ _ hostOps1_sub (fun k hk => by
        rw [StableHlo.reshape_bufs, Finset.mem_insert, Finset.mem_singleton] at hk
        have : ∀ k : Fin 6, pre0.ref k ≠ main_v70 ∧ pre0.ref k ≠ main_v71 := by decide
        rcases hk with e | e
        · exact (this k).1 (Proc.devRef_injective _ e)
        · exact (this k).2 (Proc.devRef_injective _ e)))
    (hfresh := by
      intro ops ho op h
      obtain rfl := List.mem_singleton.1 ho
      obtain rfl := List.mem_singleton.1 h
      rfl)
    (hkeep := by
      intro ops ho op h
      obtain rfl := List.mem_singleton.1 ho
      obtain rfl := List.mem_singleton.1 h
      intro w hw
      rw [StableHlo.reshape_writes, Finset.mem_singleton] at hw
      have : ∀ w : Fin 5, Pipeline.arrRef spec0 w ≠ main_v71 := by decide
      exact this w (Proc.devRef_injective _ hw))
    (hmain := hmain m) (hA := A_eq (Vm m) hO) (hpf := V_pre (Vm m)) (hΦ := fun _ _ => rfl) (Q' := _) (hQ' := fun _ h => h)

/-- What the reshape leaves: it reads the output array. -/
theorem tail_v71 (hO : Ok (Vm m)) (c : Dev nD) :
    Pipeline.afterTail pcfgs (fun _ => adm (Vm m) hO) (dats (Vm m) hO) 0 (entryV m) [hostOps1] c main_v71
      = shapeCast S12x2048x1536 (outArr m hO c) shapeCasts_S24576x1536_S12x2048x1536 := by
  unfold Pipeline.afterTail
  have e := Pipeline.withArrays_arr spec0 (by decide) c (entryV m c) (fun w => (dats (Vm m) hO 0 c).arrAt w (cfgM (Vm m) hO).N) 4
  show StableHlo.after [_] _ _ = _
  rw [StableHlo.after_cons, StableHlo.after_nil, StableHlo.reshape_result]
  funext i
  exact congrArg (fun x : Vec F S24576x1536 .bf16 => shapeCast S12x2048x1536 x shapeCasts_S24576x1536_S12x2048x1536 i) e

/-- It writes nothing else. -/
theorem tail_rest (hO : Ok (Vm m)) (c : Dev nD) (b : Ref sig .tc) (hb : b ≠ main_v71) (hw : ∀ w, Pipeline.arrRef spec0 w ≠ b) :
    Pipeline.afterTail pcfgs (fun _ => adm (Vm m) hO) (dats (Vm m) hO) 0 (entryV m) [hostOps1] c b = Vm m c b := by
  unfold Pipeline.afterTail
  show StableHlo.after [_] _ _ = _
  rw [StableHlo.after_cons, StableHlo.after_nil, StableHlo.reshape_result_ne (h := hb)]
  exact Pipeline.withArrays_of_ne _ c _ _ b hw

/-- The run ends with the result the reshaped output array, the arguments unchanged, every counter at zero. -/
theorem run_value (hO : Ok (Vm m)) (hS : Sched (Vm m)) : θ_run defs (onTc (τ := τ) (main (F := F))) ⟨m, fun _ => 0, ρ⟩ (fun r => (∀ c : Dev nD,
      r.2.mem ((c : Thread nD τ).loc main_v71) = shapeCast S12x2048x1536 (outArr m hO c) shapeCasts_S24576x1536_S12x2048x1536
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩) (run_main m ρ hO hS)
  obtain ⟨hw, hr⟩ := h.1 c
  have hrest : ∀ b : Ref sig .tc, b ∈ Pipeline.restRefs sig spec0 → b ≠ main_v71 → (∀ w, Pipeline.arrRef spec0 w ≠ b) → r.2.mem ((c : Thread nD τ).loc b) = Vm m c b :=
    fun b hb hn hw => (hr b hb).trans (tail_rest m hO c b hn hw)
  have hin : ∀ w : Fin 5, (dats (Vm m) hO 0 c).arrAt w (cfgM (Vm m) hO).N = Vm m c (Pipeline.arrRef spec0 w) → r.2.mem ((spec0 w).arr.view.loc (c : Thread nD τ)) = Vm m c (Pipeline.arrRef spec0 w) :=
    fun w e => (hw w).trans e
  refine ⟨(hr main_v71 (by decide : main_v71 ∈ Pipeline.restRefs sig spec0)).trans (tail_v71 m hO c), ?_, ?_, ?_, ?_, ?_⟩
  · exact (hin 0 (((dats (Vm m) hO 0 c).arrAt_in 0 rfl _).trans (A_eq (Vm m) hO c 0))).trans (V_main_arg0 m c)
  · exact (hrest main_arg1 (by decide) (by decide) (by decide)).trans (V_main_arg1 m c)
  · exact (hin 2 (((dats (Vm m) hO 0 c).arrAt_in 2 rfl _).trans (A_eq (Vm m) hO c 2))).trans (V_main_arg2 m c)
  · exact (hrest main_arg3 (by decide) (by decide) (by decide)).trans (V_main_arg3 m c)
  · exact (hrest main_arg4 (by decide) (by decide) (by decide)).trans (V_main_arg4 m c)

end Cert.Kernel.Run

end
-- ==== Proof.MoeNat.lean ====
/- The tables over natural numbers. A list of 32 group sizes fills 96 tiles of 256 rows. Each group needs one item for each tile it
   touches; the items are listed group after group. What is proved: there are at most 127 items; the tile of an item never
   decreases along the list; every row has exactly one item whose group and tile are the row's. -/
module

public import Idealize.ShloMosaic.Lib.Routing.OpsSearch

@[expose] public section

namespace Cert.Moe

/-- The sum of the first `n` values. -/
def pre (f : ℕ → ℕ) (n : ℕ) : ℕ := ((List.range n).map f).sum

/-- No group comes before the first. -/
theorem pre_zero (f : ℕ → ℕ) : pre f 0 = 0 := rfl
/-- The ends add up, one group at a time. -/
theorem pre_succ (f : ℕ → ℕ) (n : ℕ) : pre f (n + 1) = pre f n + f n := by
  unfold pre; rw [List.range_succ, List.map_append, List.sum_append]; simp
/-- The ends ascend. -/
theorem pre_mono (f : ℕ → ℕ) {a b : ℕ} (h : a ≤ b) : pre f a ≤ pre f b := by
  induction b with
  | zero => obtain rfl : a = 0 := by omega
            exact Nat.le_refl _
  | succ b ih =>
    rcases Nat.lt_or_ge b a with h' | h'
    · obtain rfl : a = b + 1 := by omega
      exact Nat.le_refl _
    · rw [pre_succ]; have := ih h'; omega

/-- Where a sum of prefixes passes `i`: the number of prefixes at or below `i` is the place that holds `i`. -/
theorem count_pre (f : ℕ → ℕ) (i : ℕ) : ∀ n, i < pre f n → (Nat.count (fun e => pre f (e + 1) ≤ i) n < n
    ∧ pre f (Nat.count (fun e => pre f (e + 1) ≤ i) n) ≤ i ∧ i < pre f (Nat.count (fun e => pre f (e + 1) ≤ i) n + 1))
  | 0, h => by rw [pre_zero] at h; omega
  | n + 1, h => by
    rw [Nat.count_succ, if_neg (by omega), Nat.add_zero]
    rcases Nat.lt_or_ge i (pre f n) with h' | h'
    · have := count_pre f i n h'
      exact ⟨by omega, this.2⟩
    · have e : Nat.count (fun e => pre f (e + 1) ≤ i) n = n := by
        have key : ∀ k, k ≤ n → Nat.count (fun e => pre f (e + 1) ≤ i) k = k := by
          intro k
          induction k with
          | zero => intro _; rfl
          | succ k ih =>
            intro hk
            rw [Nat.count_succ, ih (by omega), if_pos (Nat.le_trans (pre_mono f hk) h')]
        exact key n (Nat.le_refl _)
      rw [e]; exact ⟨by omega, h', h⟩

/-- The place of `i` is the one whose interval holds it. -/
theorem count_eq (f : ℕ → ℕ) (i n e : ℕ) (hn : i < pre f n) (h1 : pre f e ≤ i) (h2 : i < pre f (e + 1)) :
    Nat.count (fun e => pre f (e + 1) ≤ i) n = e := by
  obtain ⟨_, h3, h4⟩ := count_pre f i n hn
  generalize Nat.count (fun e => pre f (e + 1) ≤ i) n = k at h3 h4
  rcases Nat.lt_trichotomy k e with h | h | h
  · have := pre_mono f (show k + 1 ≤ e from h); omega
  · exact h
  · have := pre_mono f (show e + 1 ≤ k from h); omega

variable (g : ℕ → ℕ)

/-- The first tile a group touches. -/
def ft (e : ℕ) : ℕ := pre g e / 256
/-- How many tiles a group touches. -/
def te (e : ℕ) : ℕ := if 0 < g e then (pre g (e + 1) - 1) / 256 - ft g e + 1 else 0
/-- The number of items. -/
def total : ℕ := pre (te g) 32
/-- The group of item `i`. -/
def ex (i : ℕ) : ℕ := Nat.count (fun e => pre (te g) (e + 1) ≤ i) 32
/-- The tile of item `i`. -/
def tile (i : ℕ) : ℕ := ft g (ex g i) + (i - pre (te g) (ex g i))
/-- The item a grid point works on: the point's own, or the last. -/
def item (t : ℕ) : ℕ := min t (total g - 1)

variable {g}

/-- The number of items of the first `n + 1` groups is at most the tiles they fill and `n` more. -/
theorem items_le (n : ℕ) : pre (te g) (n + 1) ≤ (pre g (n + 1) + 255) / 256 + n := by
  induction n with
  | zero =>
    rw [pre_succ, pre_zero]; unfold te ft
    rw [pre_succ, pre_zero]
    split <;> omega
  | succ n ih =>
    rw [pre_succ]
    have e : te g (n + 1) ≤ (pre g (n + 2) + 255) / 256 - pre g (n + 1) / 256 := by
      unfold te ft
      have := pre_succ g (n + 1)
      rw [show n + 2 = n + 1 + 1 from rfl]
      split <;> omega
    have := pre_mono g (show n + 1 ≤ n + 2 by omega)
    show _ ≤ (pre g (n + 2) + 255) / 256 + (n + 1)
    have e2 : pre g (n + 1 + 1) = pre g (n + 2) := rfl
    omega

/-- There are at most 127 live items. -/
theorem total_le (hg : pre g 32 = 24576) : total g ≤ 127 := by
  have := items_le (g := g) 31
  unfold total
  have e : pre g (31 + 1) = 24576 := hg
  have e2 : pre (te g) (31 + 1) = pre (te g) 32 := rfl
  omega

/-- An item's group and place in it. -/
theorem ex_spec {i : ℕ} (h : i < total g) : ex g i < 32 ∧ pre (te g) (ex g i) ≤ i ∧ i < pre (te g) (ex g i) + te g (ex g i) := by
  have := count_pre (te g) i 32 h
  rw [pre_succ] at this
  exact this

/-- An item's tile lies between the first and the last its group touches. -/
theorem tile_le {i : ℕ} (h : i < total g) : ft g (ex g i) ≤ tile g i ∧ tile g i ≤ (pre g (ex g i + 1) - 1) / 256 ∧ 0 < g (ex g i) := by
  obtain ⟨_, h1, h2⟩ := ex_spec h
  unfold tile
  generalize ex g i = e at *
  have h3 : 0 < te g e := by omega
  have hp : 0 < g e := by
    unfold te at h3; split at h3
    · assumption
    · omega
  have := pre_succ g e
  have ht : te g e = (pre g (e + 1) - 1) / 256 - ft g e + 1 := by unfold te; rw [if_pos hp]
  have hf : ft g e ≤ (pre g (e + 1) - 1) / 256 := by unfold ft; omega
  refine ⟨?_, ?_, hp⟩ <;> omega

/-- The tile of a live item is one of the 96. -/
theorem tile_lt (hg : pre g 32 = 24576) {i : ℕ} (h : i < total g) : tile g i < 96 := by
  have h1 := (tile_le h).2.1
  have h2 := pre_mono g (show ex g i + 1 ≤ 32 from (ex_spec h).1)
  omega

/-- The group of an item never decreases. -/
theorem ex_mono {i j : ℕ} (hij : i ≤ j) (h : j < total g) : ex g i ≤ ex g j := by
  obtain ⟨_, h1, h2⟩ := ex_spec (g := g) (i := i) (by omega)
  obtain ⟨_, h3, h4⟩ := ex_spec h
  rcases Nat.lt_or_ge (ex g j) (ex g i) with h' | h'
  · have := pre_mono (te g) (show ex g j + 1 ≤ ex g i from h')
    rw [pre_succ] at this; omega
  · exact h'

/-- The tile of an item never decreases. -/
theorem tile_mono {i j : ℕ} (hij : i ≤ j) (h : j < total g) : tile g i ≤ tile g j := by
  have hi : i < total g := by omega
  have hm := ex_mono hij h
  rcases Nat.lt_or_ge (ex g i) (ex g j) with h' | h'
  · have h1 := (tile_le hi).2.1
    have h2 := (tile_le h).1
    have h3 := pre_mono g (show ex g i + 1 ≤ ex g j from h')
    unfold ft at h2
    omega
  · have e : ex g i = ex g j := by omega
    unfold tile; rw [e]; omega

/-- The item of a step is live. -/
theorem item_lt (h : 0 < total g) (t : ℕ) : item g t < total g := by unfold item; omega

/-- Items ascend with the steps. -/
theorem item_mono {t u : ℕ} (h : t ≤ u) : item g t ≤ item g u := by unfold item; omega

/-- There is at least one live item. -/
theorem total_pos (hg : pre g 32 = 24576) : 0 < total g := by
  by_contra h
  have hz : ∀ e, e < 32 → g e = 0 := by
    intro e he
    by_contra hne
    have h1 : 0 < te g e := by unfold te; rw [if_pos (by omega)]; omega
    have h2 := pre_mono (te g) (show e + 1 ≤ 32 from he)
    rw [pre_succ] at h2
    unfold total at h; omega
  have : ∀ n, n ≤ 32 → pre g n = 0 := by
    intro n
    induction n with
    | zero => intro _; rfl
    | succ n ih => intro hn; rw [pre_succ, ih (by omega), hz n (by omega)]
  rw [this 32 (Nat.le_refl _)] at hg; omega

/-! ## Rows -/

/-- The group of a row. -/
def grp (g : ℕ → ℕ) (r : ℕ) : ℕ := Nat.count (fun e => pre g (e + 1) ≤ r) 32
/-- The item that works on a row. -/
def rowItem (g : ℕ → ℕ) (r : ℕ) : ℕ := pre (te g) (grp g r) + (r / 256 - ft g (grp g r))

/-- The group of a row is one of the 32 and holds the row. -/
theorem grp_spec (hg : pre g 32 = 24576) {r : ℕ} (hr : r < 24576) : grp g r < 32 ∧ pre g (grp g r) ≤ r ∧ r < pre g (grp g r + 1) :=
  count_pre g r 32 (by omega)

/-- The row's item has the row's group and the row's tile. -/
theorem rowItem_spec (hg : pre g 32 = 24576) {r : ℕ} (hr : r < 24576) :
    rowItem g r < total g ∧ ex g (rowItem g r) = grp g r ∧ tile g (rowItem g r) = r / 256 := by
  obtain ⟨h1, h2, h3⟩ := grp_spec hg hr
  unfold rowItem
  generalize hgr : grp g r = e at *
  have hs := pre_succ g e
  have hte : te g e = (pre g (e + 1) - 1) / 256 - ft g e + 1 := by unfold te; rw [if_pos (by omega)]
  have hft : ft g e ≤ r / 256 := by unfold ft; omega
  have hlt : pre (te g) e + (r / 256 - ft g e) < pre (te g) (e + 1) := by rw [pre_succ]; omega
  have htot : pre (te g) e + (r / 256 - ft g e) < total g := Nat.lt_of_lt_of_le hlt (pre_mono (te g) (show e + 1 ≤ 32 from h1))
  have hex : ex g (pre (te g) e + (r / 256 - ft g e)) = e := count_eq (te g) _ 32 e htot (by omega) hlt
  refine ⟨htot, hex, ?_⟩
  unfold tile; rw [hex]; omega

/-- An item of the row's tile whose group is the row's is the row's item. -/
theorem rowItem_unique {r i : ℕ} (hi : i < total g) (h1 : ex g i = grp g r) (h2 : tile g i = r / 256) : i = rowItem g r := by
  have h3 := (ex_spec hi).2.1
  unfold tile at h2
  unfold rowItem
  rw [h1] at h2 h3
  omega

/-- A row between a group's bounds is the group's. -/
theorem grp_eq (hg : pre g 32 = 24576) {r e : ℕ} (hr : r < 24576) (h1 : pre g e ≤ r) (h2 : r < pre g (e + 1)) : grp g r = e :=
  count_eq g r 32 e (by omega) h1 h2

end Cert.Moe

end
-- ==== Proof.MoeWords.lean ====
/- Words: the 32 group sizes as naturals, what the precondition says of them, and how many prefixes lie at or below a value. -/
module

public import proofs.«01_k».proof.Proof.MoeNat
public import proofs.«01_k».proof.Pre_groups_fill
public import Idealize.ShloMosaic.Lib.ReduceAll
public import Idealize.ShloMosaic.Lib.Routing.OpsPair

@[expose] public section

noncomputable section

namespace Cert.Moe

open Idealize.ShloMosaic Idealize.ShloMosaic.Routing Idealize.ShloMosaic.ValueIdx

/-- The sizes as naturals. -/
def sz (a : IVec (shape1 32) 32) (e : ℕ) : ℕ := if h : e < 32 then (a (ix1 ⟨e, h⟩)).toNat else 0

/-- What the precondition says: every size is a small natural, and they fill the 24576 rows. -/
structure Fill (a : IVec (shape1 32) 32) (g : ℕ → ℕ) : Prop where
  word : ∀ i : Fin 32, a (ix1 i) = BitVec.ofNat 32 (g i.val)
  le : ∀ e, g e ≤ 24576
  sum : pre g 32 = 24576

/-- A conjunction of two bits that holds has both. -/
theorem andi_bits {a b : BitVec 1} (h : IntOp.andi a b = 1#1) : a = 1#1 ∧ b = 1#1 := by
  revert a b; decide

/-- Sizes below a bound add up to at most that many times the bound. -/
theorem pre_le {f : ℕ → ℕ} {b : ℕ} (h : ∀ e, f e ≤ b) (n : ℕ) : pre f n ≤ n * b := by
  induction n with
  | zero => rw [pre_zero]; omega
  | succ n ih => rw [pre_succ, Nat.succ_mul]; have := h n; omega

/-- The precondition, decoded. -/
theorem fill_of_pre {F : FTy → Type} [FloatOps F] [Cert.Pre_groups_fill.Facts]
    (a0 : FVec F Cert.Pre_groups_fill.S24576x2048 .fp8e4m3) (a1 : FVec F Cert.Pre_groups_fill.S24576 .f32)
    (a2 : FVec F Cert.Pre_groups_fill.S32x2048x1536 .fp8e4m3) (a3 : FVec F Cert.Pre_groups_fill.S32x1536 .f32) (a4 : IVec (shape1 32) 32)
    (h : Cert.Pre_groups_fill.fn a0 a1 a2 a3 a4 = fun _ => 1#1) : Fill a4 (sz a4) := by
  have e := congrFun h ix0
  unfold Cert.Pre_groups_fill.fn at e
  obtain ⟨e, e3⟩ := andi_bits e
  obtain ⟨e1, e2⟩ := andi_bits e
  have hs : Subsingleton (shape0).Idx := ⟨fun x y => funext fun a => a.elim0⟩
  have h1 := fun i => Host.reduce_andi_all _ _ _ _ _ e1 i
  have h2 := fun i => Host.reduce_andi_all _ _ _ _ _ e2 i
  have hle : ∀ i : Fin 32, (a4 (ix1 i)).toNat ≤ 24576 := fun i => by
    have q1 := h1 (ix1 i)
    have q2 := h2 (ix1 i)
    replace q1 : IntOp.cmpi .sge (a4 (ix1 i)) 0#32 = 1#1 := q1
    replace q2 : IntOp.cmpi .sle (a4 (ix1 i)) 24576#32 = 1#1 := q2
    generalize a4 (ix1 i) = w at *
    have q1' : (0#32).sle w = true := by
      have : IntOp.cmpi .sge w 0#32 = BitVec.ofBool ((0#32).sle w) := rfl
      rw [this] at q1; revert q1; cases (0#32).sle w <;> simp
    have q2' : w.sle 24576#32 = true := by
      have : IntOp.cmpi .sle w 24576#32 = BitVec.ofBool (w.sle 24576#32) := rfl
      rw [this] at q2; revert q2; cases w.sle 24576#32 <;> simp
    rw [BitVec.sle_iff_toInt_le] at q1' q2'
    have z : (0#32).toInt = 0 := by decide
    have k : (24576#32).toInt = 24576 := by decide
    rw [z] at q1'; rw [k] at q2'
    rw [BitVec.toInt_eq_toNat_cond] at q1' q2'
    have := w.isLt
    split at q1' <;> omega
  have hword : ∀ i : Fin 32, a4 (ix1 i) = BitVec.ofNat 32 (sz a4 i.val) := fun i => by
    unfold sz; rw [dif_pos i.isLt]; exact (BitVec.ofNat_toNat _ _).symm ▸ (by simp)
  have hle' : ∀ e, sz a4 e ≤ 24576 := fun e => by
    unfold sz; split
    · exact hle _
    · omega
  refine ⟨hword, hle', ?_⟩
  have e4 := StableHlo.Predicate.cmpi_eq_iff.1 e3
  have e5 := (reduce_sum a4 (sz a4) hword _ _).symm.trans e4
  have hb := pre_le hle' 32
  have e6 := congrArg BitVec.toNat e5
  rw [BitVec.toNat_ofNat] at e6
  unfold pre at hb ⊢
  rw [Nat.mod_eq_of_lt (by omega)] at e6
  exact e6

/-- A count over the naturals below `n` is the count over `Fin n`. -/
theorem count_card (p : ℕ → Prop) [DecidablePred p] (n : ℕ) (q : Fin n → Prop) [DecidablePred q] (h : ∀ i : Fin n, q i ↔ p i.val) :
    (Finset.univ.filter q).card = Nat.count p n := by
  rw [Nat.count_eq_card_filter_range]
  refine Finset.card_bij (fun i _ => i.val) (fun i hi => ?_) (fun i _ j _ e => Fin.ext e) (fun b hb => ?_)
  · have := (Finset.mem_filter.1 hi).2
    exact Finset.mem_filter.2 ⟨Finset.mem_range.2 i.isLt, (h i).1 this⟩
  · obtain ⟨hb1, hb2⟩ := Finset.mem_filter.1 hb
    exact ⟨⟨b, Finset.mem_range.1 hb1⟩, Finset.mem_filter.2 ⟨Finset.mem_univ _, (h _).2 hb2⟩, rfl⟩

/-- jnp's `searchsorted(x, y, side="right")` in its compare-all form: where `x` holds `f` and entry `q` of `y` holds `v`, entry `q` holds the number of entries of `x`
    at most `v`. -/
theorem count_ap {n : ℕ} (x : IVec (shape1 32) 32) (y : IVec (shape1 n) 32) (f : ℕ → ℕ) (hx : ∀ i : Fin 32, x (ix1 i) = BitVec.ofNat 32 (f i.val))
    (hf : ∀ i : Fin 32, f i.val < 2 ^ 31) (q : Fin n) {v : ℕ} (hy : y (ix1 q) = BitVec.ofNat 32 v) (hv : v < 2 ^ 31)
    (h1 : (shape1 32).BroadcastsInDim (shape2 32 1) (![0] : Fin 1 → Fin (shape2 32 1).rank))
    (h2 : (shape2 32 1).BroadcastsInDim (shape2 32 n) (![0, 1] : Fin 2 → Fin (shape2 32 n).rank))
    (h3 : (shape1 n).BroadcastsInDim (shape2 1 n) (![1] : Fin 1 → Fin (shape2 1 n).rank))
    (h4 : (shape2 1 n).BroadcastsInDim (shape2 32 n) (![0, 1] : Fin 2 → Fin (shape2 32 n).rank)) (hw : 1 < 32)
    (hr : (shape2 32 n).ReducesTo [0] (shape1 n)) (hu : 0 < shape0.numel) :
    Host.reduce IntOp.addi (extui 32 (cmpi .sle (broadcastInDim (shape2 32 n) ![0, 1] h2 (broadcastInDim (shape2 32 1) ![0] h1 x))
      (broadcastInDim (shape2 32 n) ![0, 1] h4 (broadcastInDim (shape2 1 n) ![1] h3 y))) hw) (constantI shape0 32 0#32) hr hu (ix1 q)
      = BitVec.ofNat 32 (Nat.count (fun e => f e ≤ v) 32) := by
  refine BitVec.eq_of_toNat_eq ?_
  have hc : Nat.count (fun e => f e ≤ v) 32 ≤ 32 := by
    rw [Nat.count_eq_card_filter_range]; exact (Finset.card_filter_le _ _).trans (by simp)
  rw [BitVec.toNat_ofNat, Nat.mod_eq_of_lt (by omega)]
  refine (StableHlo.Predicate.toNat_reduce_count_rows (by omega) _ hw hr hu (ix1 q)).trans ?_
  refine count_card _ 32 _ fun i => ?_
  have e : (StableHlo.Predicate.ij i (ix1 q 0) : (shape2 32 n).Idx) = ix2 i q := by
    funext b; match b with | ⟨0, _⟩ => rfl | ⟨1, _⟩ => rfl
  rw [e]
  show IntOp.cmpi .sle (broadcastInDim (shape2 32 n) ![0, 1] h2 (broadcastInDim (shape2 32 1) ![0] h1 x) (ix2 i q))
    (broadcastInDim (shape2 32 n) ![0, 1] h4 (broadcastInDim (shape2 1 n) ![1] h3 y) (ix2 i q)) = 1#1 ↔ _
  rw [bcRows, bcCols, hx, hy]
  have : IntOp.cmpi .sle (BitVec.ofNat 32 (f i.val)) (BitVec.ofNat 32 v) = BitVec.ofBool ((BitVec.ofNat 32 (f i.val)).sle (BitVec.ofNat 32 v)) := rfl
  rw [this, sle_ofNat32 (hf i) hv]
  by_cases hle : f i.val ≤ v
  · simp [hle]
  · simp [hle]

/-- Subtraction of words, the result being nonnegative, is that of naturals. -/
theorem sub_ofNat {a b : ℕ} (h : b ≤ a) : BitVec.ofNat 32 a - BitVec.ofNat 32 b = BitVec.ofNat 32 (a - b) := by
  rw [sub_eq_iff_eq_add, ← BitVec.ofNat_add, Nat.sub_add_cancel h]

/-- The smaller of two small words is that of the naturals. -/
theorem minsi_ofNat {a b : ℕ} (ha : a < 2 ^ 31) (hb : b < 2 ^ 31) : IntOp.minsi (BitVec.ofNat 32 a) (BitVec.ofNat 32 b) = BitVec.ofNat 32 (min a b) := by
  unfold IntOp.minsi
  rw [slt_ofNat32 ha hb]
  by_cases h : a < b
  · rw [decide_eq_true h, if_pos rfl, Nat.min_eq_left (Nat.le_of_lt h)]
  · rw [decide_eq_false h, if_neg (by simp), Nat.min_eq_right (Nat.not_lt.1 h)]

/-- Words of small naturals are equal only if the naturals are. -/
theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

end Cert.Moe

end
-- ==== Proof.TablesBits.lean ====
/- The tables as functions of the group sizes, and the words they hold. -/
module

public import proofs.«01_k».proof.Proof.LaunchBits
public import proofs.«01_k».proof.Proof.MoeWords

@[expose] public section

set_option maxRecDepth 16384

noncomputable section

namespace Cert.Kernel.Run

open Cert.Kernel Cert.Kernel.Gen
open Idealize.ShloMosaic Idealize.ShloMosaic.TcCoe Idealize.ShloMosaic.Tactic
open Idealize.ShloMosaic.Routing (pyDiv shape0 shape1 shape2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host lines, as functions of the sizes -/

section Lines
variable (a : IVec S32 32)

/-- A sum of the entries up to each. -/
def csum : IVec S32 32 :=
  Host.reduceWindow IntOp.addi ![32] ![1] ![31] ![0] a (broadcastInDim S_ ![] bcast_S_S_ (constantI S_ 32 0#32)) reduceWindows_S32_S32_w32s1p31_0 h_S_
/-- The first row of each group. -/
def hStart : IVec S32 32 := subi (csum a) a
/-- The first tile of each group. -/
def hFt : IVec S32 32 := pyDiv bcast_S_S32 (hStart a) (constantI S_ 32 256#32)
/-- The last tile of each group. -/
def hLt : IVec S32 32 := pyDiv bcast_S_S32 (subi (csum a) (broadcastInDim S32 ![] bcast_S_S32 (constantI S_ 32 1#32))) (constantI S_ 32 256#32)
/-- How many tiles each group touches. -/
def hTe : IVec S32 32 :=
  select (cmpi .sgt a (broadcastInDim S32 ![] bcast_S_S32 (constantI S_ 32 0#32)))
    (addi (subi (hLt a) (hFt a)) (broadcastInDim S32 ![] bcast_S_S32 (constantI S_ 32 1#32)))
    (broadcastInDim S32 ![] bcast_S_S32 (constantI S_ 32 0#32))
/-- The number of items. -/
def hTotal : IVec S_ 32 := shapeCast S_ (extractStridedSlice S1 ![31] (csum (hTe a)) slices_S32_S1_31) shapeCasts_S1_S_
/-- The item of each grid point. -/
def hItem : IVec S127 32 :=
  minsi (iotaInDim S127 32 0) (broadcastInDim S127 ![] bcast_S_S127 (subi (hTotal a) (constantI S_ 32 1#32)))
/-- The group of each grid point. -/
def hEx : IVec S127 32 :=
  Host.reduce IntOp.addi (extui 32 (cmpi .sle (broadcastInDim S32x127 ![0, 1] bcast_S32x1_S32x127_0_1 (broadcastInDim S32x1 ![0] bcast_S32_S32x1_0 (csum (hTe a))))
    (broadcastInDim S32x127 ![0, 1] bcast_S1x127_S32x127_0_1 (broadcastInDim S1x127 ![1] bcast_S127_S1x127_1 (hItem a)))) natLt_1_32)
    (constantI S_ 32 0#32) reducesTo_S32x127_S127_d0 h_S_
/-- The group numbers as a column of start indices. -/
def hIdx : IVec S127x1 32 :=
  broadcastInDim S127x1 ![0] bcast_S127_S127x1_0 (select (cmpi .slt (hEx a) (broadcastInDim S127 ![] bcast_S_S127 (constantI S_ 32 0#32)))
    (addi (hEx a) (broadcastInDim S127 ![] bcast_S_S127 (constantI S_ 32 32#32))) (hEx a))
/-- A group table read at each grid point's group. -/
def hTake (x : IVec S32 32) : IVec S127 32 := Host.gather gather_S32_S127x1_S127_n_0_n_n_0_1_1 x (hIdx a)
/-- The tile of each grid point. -/
def hTile : IVec S127 32 := subi (addi (hTake a (hFt a)) (hItem a)) (subi (hTake a (csum (hTe a))) (hTake a (hTe a)))
/-- Whether each grid point has an item of its own. -/
def hLive : IVec S127 32 := extui 32 (cmpi .slt (iotaInDim S127 32 0) (broadcastInDim S127 ![] bcast_S_S127 (hTotal a))) natLt_1_32
/-- Whether each grid point's tile differs from the one before. -/
def hFirst : IVec S127 32 :=
  concatenate S127 0 [⟨S1, broadcastInDim S1 ![] bcast_S_S1 (constantI S_ 32 1#32)⟩,
    ⟨S126, extui 32 (cmpi .ne (extractStridedSlice S126 ![1] (hTile a) slices_S127_S126_1) (extractStridedSlice S126 ![0] (hTile a) slices_S127_S126_0)) natLt_1_32⟩]
    concatenates_S1_S126_S127_d0

end Lines

/-! ## What the call finds in the tables -/

variable (m : (ℓ : Loc nD τ sig) → Buf (Elt F) ℓ)

/-- The sizes, on core `c`. -/
def szs (c : Dev nD) : IVec S32 32 := m ((c : Thread nD τ).loc main_arg4)

set_option maxHeartbeats 2000000 in
theorem V_ex (c : Dev nD) : Vm m c main_v19 = hEx (szs m c) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_lo (c : Dev nD) : Vm m c main_v60 = hTake (szs m c) (hStart (szs m c)) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_hi (c : Dev nD) : Vm m c main_v67 = hTake (szs m c) (csum (szs m c)) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_live (c : Dev nD) : Vm m c main_v47 = hLive (szs m c) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_tile (c : Dev nD) : Vm m c main_v43 = hTile (szs m c) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
/-- The pair joined by the last host line, as a function of its two parts. -/
def joined (x : IVec S1 32) (y : IVec S126 32) : IVec S127 32 := concatenate S127 0 [⟨S1, x⟩, ⟨S126, y⟩] concatenates_S1_S126_S127_d0

set_option maxHeartbeats 2000000 in
theorem V_first (c : Dev nD) : Vm m c main_v53 = hFirst (szs m c) := by
  unfold Vm entryV; after_reads_simp
  refine congrArg₂ joined (?_ : _ = broadcastInDim S1 ![] bcast_S_S1 (constantI S_ 32 1#32))
    (?_ : _ = extui 32 (cmpi .ne (extractStridedSlice S126 ![1] (hTile (szs m c)) slices_S127_S126_1) (extractStridedSlice S126 ![0] (hTile (szs m c)) slices_S127_S126_0)) natLt_1_32)
  · after_reads_simp
  · after_reads_simp
    simp -implicitDefEqProofs only [StableHlo.TRef.toBuf, StableHlo.TRef.ofBuf, cast_cast, cast_eq, id]
    simp only [hTile, hTake, hIdx, hEx, hTotal, hItem, hTe, hLt, hFt, hStart, csum, pyDiv, szs]
    try rfl

end Cert.Kernel.Run

end
-- ==== Proof.WordsBits.lean ====
/- The words the tables hold, where the sizes fill the rows. -/
module

public import proofs.«01_k».proof.Proof.TablesBits

@[expose] public section

set_option maxRecDepth 16384

noncomputable section

namespace Cert.Kernel.Run

open Cert.Kernel Cert.Kernel.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Idealize.ShloMosaic.ValueIdx (ix1 ix2)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Words
variable {a : IVec S32 32} {g : ℕ → ℕ} (h : Fill a g)

/-- The sum of the entries up to each, word by word. -/
theorem csum_ap (x : IVec S32 32) (f : ℕ → ℕ) (hx : ∀ i : Fin 32, x (ix1 i) = BitVec.ofNat 32 (f i.val)) (j : Fin 32) :
    csum x (ix1 j) = BitVec.ofNat 32 (pre f (j.val + 1)) :=
  cumsum1 (N := 32) (Nm1 := 31) rfl x f hx _ (by rw [bc0]; rfl) _ _ j

include h

/-- No end exceeds the number of rows. -/
theorem pre_bd (n : ℕ) (hn : n ≤ 32) : pre g n ≤ 24576 := h.sum ▸ pre_mono g hn

/-- The groups' first rows. -/
theorem hStart_ap (j : Fin 32) : hStart a (ix1 j) = BitVec.ofNat 32 (pre g j.val) := by
  show csum a (ix1 j) - a (ix1 j) = _
  rw [csum_ap a g h.word, h.word, sub_ofNat (by rw [pre_succ]; omega), pre_succ, Nat.add_sub_cancel]

/-- The groups' first tiles. -/
theorem hFt_ap (j : Fin 32) : hFt a (ix1 j) = BitVec.ofNat 32 (ft g j.val) :=
  pyDiv_ap _ _ _ _ (hStart_ap h j) rfl (Nat.lt_of_le_of_lt (pre_bd h j.val (Nat.le_of_lt j.isLt)) (by decide)) (by decide) (by decide)

/-- The nonempty groups' last tiles. -/
theorem hLt_ap (j : Fin 32) (hj : 0 < g j.val) : hLt a (ix1 j) = BitVec.ofNat 32 ((pre g (j.val + 1) - 1) / 256) := by
  refine pyDiv_ap _ _ _ _ ?_ rfl (Nat.lt_of_le_of_lt (Nat.le_trans (Nat.sub_le _ _) (pre_bd h (j.val + 1) j.isLt)) (by decide)) (by decide) (by decide)
  show csum a (ix1 j) - 1#32 = _
  rw [csum_ap a g h.word]
  exact sub_ofNat (by rw [pre_succ]; omega)

/-- The number of tiles a group touches. -/
theorem hTe_ap (j : Fin 32) : hTe a (ix1 j) = BitVec.ofNat 32 (te g j.val) := by
  show Scalar.select (IntOp.cmpi .sgt (a (ix1 j)) 0#32) (hLt a (ix1 j) - hFt a (ix1 j) + 1#32) 0#32 = _
  have e : IntOp.cmpi .sgt (a (ix1 j)) 0#32 = BitVec.ofBool ((BitVec.ofNat 32 0).slt (a (ix1 j))) := rfl
  have hle := h.le j.val
  rw [e, h.word, slt_ofNat32 (by decide) (by omega), WordCmp.select_decide]
  unfold te
  split
  · rename_i hp
    rw [hLt_ap h j hp, hFt_ap h, sub_ofNat (by unfold ft; have := pre_succ g j.val; omega)]
    exact (BitVec.ofNat_add _ _).symm
  · rfl

/-- The tiles touched add up to at most 127. -/
theorem cum_bd (n : ℕ) (hn : n ≤ 32) : pre (te g) n ≤ 127 :=
  Nat.le_trans (pre_mono (te g) hn) (total_le h.sum)

/-- The number of live items. -/
theorem hTotal_ap : hTotal a ValueIdx.ix0 = BitVec.ofNat 32 (total g) := by
  unfold hTotal
  refine (shapeCast_apply _ _ _ (ix1 (0 : Fin 1)) ?_).trans ?_
  · have e1 : ∀ x : Fin S1.numel, x.val = 0 := by decide
    have e2 : ∀ x : Fin S_.numel, x.val = 0 := by decide
    exact (e1 _).trans (e2 _).symm
  · exact (slice1 (m := 32) (n := 1) 31 _ _ 0 (by decide)).trans (csum_ap (hTe a) (te g) (hTe_ap h) 31)

/-- The item of a step. -/
theorem hItem_ap (i : Fin 127) : hItem a (ix1 i) = BitVec.ofNat 32 (item g i.val) := by
  have e : hItem a (ix1 i) = IntOp.minsi (BitVec.ofNat 32 i.val) (hTotal a ValueIdx.ix0 - 1#32) :=
    congrArg (IntOp.minsi (BitVec.ofNat 32 i.val)) (bc0 (s := S127) bcast_S_S127 (subi (hTotal a) (constantI S_ 32 1#32)) (ix1 i))
  rw [e, hTotal_ap h]
  have h1 := total_pos h.sum
  have h2 := total_le h.sum
  have := i.isLt
  rw [show (1#32 : BitVec 32) = BitVec.ofNat 32 1 from rfl, sub_ofNat (by omega), minsi_ofNat (by omega) (by omega)]
  rfl

/-- A grid point's item. -/
theorem it_lt (i : ℕ) : item g i < total g := item_lt (total_pos h.sum) i

/-- The item's expert. -/
theorem hEx_ap (i : Fin 127) : hEx a (ix1 i) = BitVec.ofNat 32 (ex g (item g i.val)) :=
  count_ap (n := 127) (csum (hTe a)) (hItem a) (fun e => pre (te g) (e + 1)) (csum_ap (hTe a) (te g) (hTe_ap h))
    (fun i => Nat.lt_of_le_of_lt (cum_bd h (i.val + 1) i.isLt) (by decide)) i (hItem_ap h i)
    (Nat.lt_trans (it_lt h i.val) (Nat.lt_of_le_of_lt (total_le h.sum) (by decide))) _ _ _ _ _ _ _

/-- The gathers' indices are the items' experts. -/
theorem hIdx_ap (i : Fin 127) : hIdx a (ix2 i (0 : Fin 1)) = BitVec.ofNat 32 (ex g (item g i.val)) := by
  refine (bcCol (n := 127) _ _ i).trans ?_
  show Scalar.select (IntOp.cmpi .slt (hEx a (ix1 i)) 0#32) _ (hEx a (ix1 i)) = _
  have := (ex_spec (it_lt h i.val)).1
  rw [wrap_of_lt, hEx_ap h]
  rw [hEx_ap h, BitVec.toNat_ofNat, Nat.mod_eq_of_lt (by omega)]; omega

/-- A group table, read at each grid point's group. -/
theorem hTake_ap (x : IVec S32 32) (f : ℕ → ℕ) (hx : ∀ i : Fin 32, x (ix1 i) = BitVec.ofNat 32 (f i.val)) (i : Fin 127) :
    hTake a x (ix1 i) = BitVec.ofNat 32 (f (ex g (item g i.val))) := by
  have h1 := (ex_spec (it_lt h i.val)).1
  exact (take_ap gather_S32_S127x1_S127_n_0_n_n_0_1_1 rfl rfl rfl rfl x (hIdx a) i h1 (by omega) (hIdx_ap h i)).trans (hx ⟨_, h1⟩)

/-- The item's tile. -/
theorem hTile_ap (i : Fin 127) : hTile a (ix1 i) = BitVec.ofNat 32 (tile g (item g i.val)) := by
  show hTake a (hFt a) (ix1 i) + hItem a (ix1 i) - (hTake a (csum (hTe a)) (ix1 i) - hTake a (hTe a) (ix1 i)) = _
  rw [hTake_ap h _ (ft g) (hFt_ap h), hTake_ap h _ (fun e => pre (te g) (e + 1)) (csum_ap (hTe a) (te g) (hTe_ap h)), hTake_ap h _ (te g) (hTe_ap h), hItem_ap h]
  obtain ⟨h1, h2, h3⟩ := ex_spec (it_lt h i.val)
  rw [← BitVec.ofNat_add, sub_ofNat (by rw [pre_succ]; omega), pre_succ, Nat.add_sub_cancel, sub_ofNat (by omega)]
  unfold tile
  rw [Nat.add_sub_assoc h2]

/-- Whether a step is live. -/
theorem hLive_ap (i : Fin 127) : hLive a (ix1 i) = BitVec.ofNat 32 (if i.val < total g then 1 else 0) := by
  have e : hLive a (ix1 i) = (BitVec.ofBool ((BitVec.ofNat 32 i.val).slt (hTotal a ValueIdx.ix0))).setWidth 32 :=
    congrArg (fun w => (BitVec.ofBool ((BitVec.ofNat 32 i.val).slt w)).setWidth 32) (bc0 (s := S127) bcast_S_S127 (hTotal a) (ix1 i))
  have h2 := total_le h.sum
  have := i.isLt
  rw [e, hTotal_ap h, slt_ofNat32 (by omega) (by omega), setWidth_ofBool]

/-- The first step is a first visit. -/
theorem hFirst_zero : hFirst a (ix1 (0 : Fin 127)) = 1#32 := by
  unfold hFirst
  exact concatenate_pair_apply_left (t := S127) (s₁ := S1) (s₂ := S126) 0 _ _ _ _ rfl (ix1 (0 : Fin 1)) (fun b => by obtain rfl : b = 0 := Subsingleton.elim _ _; rfl)

/-- A later step is a first visit where the tile changes. -/
theorem hFirst_succ (i : ℕ) (hi : i + 1 < 127) :
    hFirst a (ix1 (⟨i + 1, hi⟩ : Fin 127)) = BitVec.ofNat 32 (if tile g (item g (i + 1)) ≠ tile g (item g i) then 1 else 0) := by
  unfold hFirst
  refine (concatenate_pair_apply_right (t := S127) (s₁ := S1) (s₂ := S126) 0 _ _ _ _ rfl rfl (ix1 (⟨i, by omega⟩ : Fin 126)) (fun b hb => absurd (Subsingleton.elim _ _) hb) rfl).trans ?_
  show (IntOp.cmpi .ne (extractStridedSlice S126 ![1] (hTile a) slices_S127_S126_1 (ix1 (⟨i, by omega⟩ : Fin 126)))
    (extractStridedSlice S126 ![0] (hTile a) slices_S127_S126_0 (ix1 (⟨i, by omega⟩ : Fin 126)))).setWidth 32 = _
  have e1 := slice1 (m := 127) (n := 126) 1 (hTile a) slices_S127_S126_1 ⟨i, by omega⟩ (show 1 + i < 127 by omega)
  have e2 := slice1 (m := 127) (n := 126) 0 (hTile a) slices_S127_S126_0 ⟨i, by omega⟩ (show 0 + i < 127 by omega)
  have f1 : hTile a (ix1 (⟨1 + i, by omega⟩ : Fin 127)) = BitVec.ofNat 32 (tile g (item g (i + 1))) := by rw [hTile_ap h]; simp only [Nat.add_comm]
  have f2 : hTile a (ix1 (⟨0 + i, by omega⟩ : Fin 127)) = BitVec.ofNat 32 (tile g (item g i)) := by rw [hTile_ap h]; simp only [Nat.zero_add]
  rw [e1.trans f1, e2.trans f2]
  have t1 := tile_lt h.sum (it_lt h (i + 1))
  have t2 := tile_lt h.sum (it_lt h i)
  by_cases ht : tile g (item g (i + 1)) = tile g (item g i)
  · rw [ht, if_neg (by simp)]; simp [IntOp.cmpi]
  · rw [if_pos ht]
    have hne : BitVec.ofNat 32 (tile g (item g (i + 1))) ≠ BitVec.ofNat 32 (tile g (item g i)) := fun e => ht (ofNat_inj (by omega) (by omega) e)
    have hb : (BitVec.ofNat 32 (tile g (item g (i + 1))) != BitVec.ofNat 32 (tile g (item g i))) = true := bne_iff_ne.2 hne
    show (BitVec.ofBool (BitVec.ofNat 32 (tile g (item g (i + 1))) != BitVec.ofNat 32 (tile g (item g i)))).setWidth 32 = _
    rw [hb]; rfl

end Words

end Cert.Kernel.Run

end
-- ==== Proof.SchedBits.lean ====
/- The two conditions on the tables, from the precondition: every block named lies inside its array, and the flags follow the tiles. -/
module

public import proofs.«01_k».proof.Proof.WordsBits
public import Idealize.ShloMosaic.Lib.Pipeline.Kit

@[expose] public section

set_option maxRecDepth 16384

noncomputable section

namespace Cert.Kernel.Run

open Cert.Kernel Cert.Kernel.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Idealize.ShloMosaic.ValueIdx (ix1 ix2)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The one device's group sizes fill the rows. -/
abbrev Good (g : ℕ → ℕ) : Prop := Fill (szs m 0) g

/-- The table index of a grid point. -/
theorem at127_eq (i : grid0.Coords) : at127 i = ix1 (⟨(i 0).val, (i 0).isLt⟩ : Fin 127) := by
  funext b
  obtain rfl : b = 0 := Subsingleton.elim _ _
  rfl

/-- The table index of a step. -/
theorem at127_coords (t : Fin grid0.N) : at127 (grid0.coords t) = ix1 (⟨t.val, t.isLt⟩ : Fin 127) := by
  funext b
  obtain rfl : b = 0 := Subsingleton.elim _ _
  refine Fin.ext ?_
  show ((grid0.coords t) 0).val = t.val
  have e := Pipeline.Grid.coords_val t (0 : Fin 1) (S := 1) (B := 127) (by decide) (by decide)
  have ht : t.val < 127 := t.isLt
  exact e.trans (by omega)

variable {m} {g : ℕ → ℕ} (h : Good m g)
include h

/-- The word for the tile. -/
theorem wTile_eq (t : Fin grid0.N) : wTile (Vm m) t = BitVec.ofNat 32 (tile g (item g t.val)) := by
  show (Vm m 0 main_v43 : S127.Idx → BitVec 32) _ = _
  rw [at127_coords, V_tile]; exact hTile_ap h _
/-- The group word of a grid point. -/
theorem wEx_eq (t : Fin grid0.N) : (tbl (Vm m) 1 : S127.Idx → BitVec 32) (at127 (grid0.coords t)) = BitVec.ofNat 32 (ex g (item g t.val)) := by
  show (Vm m 0 main_v19 : S127.Idx → BitVec 32) _ = _
  rw [at127_coords, V_ex]; exact hEx_ap h _
/-- The word for the group's first row. -/
theorem wLo_eq (t : Fin grid0.N) : wLo (Vm m) t = BitVec.ofNat 32 (pre g (ex g (item g t.val))) := by
  show (Vm m 0 main_v60 : S127.Idx → BitVec 32) _ = _
  rw [at127_coords, V_lo]; exact hTake_ap h _ (pre g) (hStart_ap h) _
/-- The word for the group's end. -/
theorem wHi_eq (t : Fin grid0.N) : wHi (Vm m) t = BitVec.ofNat 32 (pre g (ex g (item g t.val) + 1)) := by
  show (Vm m 0 main_v67 : S127.Idx → BitVec 32) _ = _
  rw [at127_coords, V_hi]; exact hTake_ap h _ (fun e => pre g (e + 1)) (csum_ap _ g h.word) _
/-- The word that says whether the item is live. -/
theorem wLive_eq (t : Fin grid0.N) : wLive (Vm m) t = BitVec.ofNat 32 (if t.val < total g then 1 else 0) := by
  show (Vm m 0 main_v47 : S127.Idx → BitVec 32) _ = _
  rw [at127_coords, V_live]; exact hLive_ap h _
/-- The first item is a first visit. -/
theorem wFirst_zero (t : Fin grid0.N) (ht : t.val = 0) : wFirst (Vm m) t = 1#32 := by
  show (Vm m 0 main_v53 : S127.Idx → BitVec 32) _ = _
  rw [at127_coords, V_first]
  have e : (⟨t.val, t.isLt⟩ : Fin 127) = 0 := Fin.ext ht
  rw [e]; exact hFirst_zero h
/-- A later item is a first visit where the tile changes. -/
theorem wFirst_succ (n : ℕ) (hn : n + 1 < grid0.N) :
    wFirst (Vm m) ⟨n + 1, hn⟩ = BitVec.ofNat 32 (if tile g (item g (n + 1)) ≠ tile g (item g n) then 1 else 0) := by
  show (Vm m 0 main_v53 : S127.Idx → BitVec 32) _ = _
  rw [at127_coords, V_first]; exact hFirst_succ h n hn

/-- The flags follow the tiles. -/
theorem sched : Sched (Vm m) where
  live0 t ht := by rw [wLive_eq h, ht, if_pos (total_pos h.sum)]
  first0 t ht := wFirst_zero h t ht
  bit t := by
    obtain ⟨n, hn⟩ := t
    cases n with
    | zero => exact .inr (wFirst_zero h _ rfl)
    | succ n => rw [wFirst_succ h]; split
                · exact .inr rfl
                · exact .inl rfl
  same t ht e := by
    rw [wFirst_succ h] at e
    rw [wTile_eq h, wTile_eq h]
    split at e
    · exact absurd e (by decide)
    · rename_i hh; rw [Decidable.not_not.1 hh]
  dead t ht := by
    rw [wLive_eq h] at ht
    have hl : ¬ t.val < total g := fun hl => ht (by rw [if_pos hl])
    obtain ⟨n, hn⟩ := t
    have hp := total_pos h.sum
    cases n with
    | zero => exact absurd hp hl
    | succ n =>
      rw [wFirst_succ h]
      have e : item g (n + 1) = item g n := by unfold item; simp only at hl; omega
      rw [e, if_neg (by simp)]

/-- The word a window's index map reads. -/
theorem tile_word (i : grid0.Coords) : (tbl (Vm m)).at 0 (Rect.unit (s := S127) (k0_off1 i) S1.size (Facts₀.k0_off1_inb _)) Facts₀.numel1_S1
    = BitVec.ofNat 32 (tile g (item g (i 0).val)) := by
  refine (congrArg (tbl (Vm m) 0) (word_index i _ (off1_val _) _ _)).trans ?_
  refine (congrFun (V_tile m 0) (at127 i)).trans ?_
  rw [at127_eq]; exact hTile_ap h _
/-- The expert's word, as the windows read it. -/
theorem ex_word (i : grid0.Coords) : (tbl (Vm m)).at 1 (Rect.unit (s := S127) (k0_off1 i) S1.size (Facts₀.k0_off1_inb _)) Facts₀.numel1_S1
    = BitVec.ofNat 32 (ex g (item g (i 0).val)) := by
  refine (congrArg (tbl (Vm m) 1) (word_index i _ (off1_val _) _ _)).trans ?_
  refine (congrFun (V_ex m 0) (at127 i)).trans ?_
  rw [at127_eq]; exact hEx_ap h _

/-- The tile's word stands for the tile. -/
theorem tile_toNat (i : grid0.Coords) : (BitVec.ofNat 32 (tile g (item g (i 0).val))).toNat = tile g (item g (i 0).val) := by
  have := tile_lt h.sum (it_lt h (i 0).val)
  rw [BitVec.toNat_ofNat, Nat.mod_eq_of_lt (by omega)]
/-- The expert's word stands for the expert. -/
theorem ex_toNat (i : grid0.Coords) : (BitVec.ofNat 32 (ex g (item g (i 0).val))).toNat = ex g (item g (i 0).val) := by
  have := (ex_spec (it_lt h (i 0).val)).1
  rw [BitVec.toNat_ofNat, Nat.mod_eq_of_lt (by omega)]

/-- The codes' window lies at the item's tile. -/
theorem map_0 (i : grid0.Coords) : cc0_transform_0 Facts₀.k0_off1_inb Facts₀.numel1_S1 (tbl (Vm m)) i = ![tile g (item g (i 0).val), 0] :=
  (congrArg (fun w : BitVec 32 => (![w.toNat, 0] : Fin 2 → ℕ)) (tile_word h i)).trans (by rw [tile_toNat h])
/-- The row scales' window lies at the item's tile. -/
theorem map_1 (i : grid0.Coords) : cc0_transform_1 Facts₀.k0_off1_inb Facts₀.numel1_S1 (tbl (Vm m)) i = ![tile g (item g (i 0).val), 0] :=
  (congrArg (fun w : BitVec 32 => (![w.toNat, 0] : Fin 2 → ℕ)) (tile_word h i)).trans (by rw [tile_toNat h])
/-- The matrix window lies at the item's expert. -/
theorem map_2 (i : grid0.Coords) : cc0_transform_2 Facts₀.k0_off1_inb Facts₀.numel1_S1 (tbl (Vm m)) i = ![ex g (item g (i 0).val), 0, 0] :=
  (congrArg (fun w : BitVec 32 => (![w.toNat, 0, 0] : Fin 3 → ℕ)) (ex_word h i)).trans (by rw [ex_toNat h])
/-- The column scales' window lies at the item's expert. -/
theorem map_3 (i : grid0.Coords) : cc0_transform_3 Facts₀.k0_off1_inb Facts₀.numel1_S1 (tbl (Vm m)) i = ![ex g (item g (i 0).val), 0, 0] :=
  (congrArg (fun w : BitVec 32 => (![w.toNat, 0, 0] : Fin 3 → ℕ)) (ex_word h i)).trans (by rw [ex_toNat h])
/-- The result's window lies at the item's tile. -/
theorem map_4 (i : grid0.Coords) : cc0_transform_4 Facts₀.k0_off1_inb Facts₀.numel1_S1 (tbl (Vm m)) i = ![tile g (item g (i 0).val), 0] :=
  (congrArg (fun w : BitVec 32 => (![w.toNat, 0] : Fin 2 → ℕ)) (tile_word h i)).trans (by rw [tile_toNat h])

/-- Every block named lies inside its array and moves whole words. -/
theorem tables_ok : Ok (Vm m) := by
  have ht : ∀ i : grid0.Coords, tile g (item g (i 0).val) < 96 := fun i => tile_lt h.sum (it_lt h _)
  have he : ∀ i : grid0.Coords, ex g (item g (i 0).val) < 32 := fun i => (ex_spec (it_lt h _)).1
  refine ⟨fun i => ⟨fun b => ?_, .inr (.inl (.inr ⟨by decide, rfl, .inl ⟨?_, ⟨64, rfl⟩⟩⟩))⟩, fun i => ⟨fun b => ?_, .inl rfl⟩,
    fun i => ⟨fun b => ?_, .inr (.inr ⟨by decide, rfl, ?_, rfl⟩)⟩, fun i => ⟨fun b => ?_, .inl rfl⟩,
    fun i => ⟨fun b => ?_, .inr (.inl (.inr ⟨by decide, rfl, .inl ⟨?_, ⟨128, rfl⟩⟩⟩))⟩⟩
  · rw [map_0 h]; have := ht i; match b with
    | ⟨0, _⟩ => show (tile g (item g (i 0).val) + 1) * 256 ≤ 24576; omega
    | ⟨1, _⟩ => show (0 + 1) * 2048 ≤ 2048; omega
  · show 4 ∣ cc0_transform_0 _ _ (tbl (Vm m)) i 0 * 256
    exact Dvd.dvd.mul_left (by decide) _
  · rw [map_1 h]; have := ht i; match b with
    | ⟨0, _⟩ => show (tile g (item g (i 0).val) + 1) * 256 ≤ 24576; omega
    | ⟨1, _⟩ => show (0 + 1) * 1 ≤ 1; omega
  · rw [map_2 h]; have := he i; match b with
    | ⟨0, _⟩ => show (ex g (item g (i 0).val) + 1) * 1 ≤ 32; omega
    | ⟨1, _⟩ => show (0 + 1) * 2048 ≤ 2048; omega
    | ⟨2, _⟩ => show (0 + 1) * 1536 ≤ 1536; omega
  · show cc0_transform_2 _ _ (tbl (Vm m)) i 1 * 2048 = 0
    rw [map_2 h]; rfl
  · rw [map_3 h]; have := he i; match b with
    | ⟨0, _⟩ => show (ex g (item g (i 0).val) + 1) * 1 ≤ 32; omega
    | ⟨1, _⟩ => show (0 + 1) * 1 ≤ 1; omega
    | ⟨2, _⟩ => show (0 + 1) * 1536 ≤ 1536; omega
  · rw [map_4 h]; have := ht i; match b with
    | ⟨0, _⟩ => show (tile g (item g (i 0).val) + 1) * 256 ≤ 24576; omega
    | ⟨1, _⟩ => show (0 + 1) * 1536 ≤ 1536; omega
  · show 2 ∣ cc0_transform_4 _ _ (tbl (Vm m)) i 0 * 256
    exact Dvd.dvd.mul_left (by decide) _

end Cert.Kernel.Run

end
-- ==== Proof.BodyIdeal.lean ====
/- The kernel's body at one grid point: what it leaves in the output block, as a function of the blocks and of the
   table words it reads. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The index of a table's word for grid point `i`. -/
def at127 (i : grid0.Coords) : S127.Idx := fun _ => ⟨(i 0).val, Nat.lt_of_lt_of_le (i 0).isLt (by rename_i a; obtain rfl : a = 0 := Subsingleton.elim _ _; exact Nat.le_refl _)⟩

/-- Each table as the body is handed it: its whole buffer as a memref, and that memref's wholeness. -/
abbrev tbM0 : Memref sig .tc .smem S127 .i32 := Memref.whole main_v43
/-- It is a whole buffer. -/
abbrev htbM0 : tbM0.IsWhole := Memref.isWhole_whole _
/-- The table as a whole buffer. -/
abbrev tbM1 : Memref sig .tc .smem S127 .i32 := Memref.whole main_v19
/-- It is a whole buffer. -/
abbrev htbM1 : tbM1.IsWhole := Memref.isWhole_whole _
/-- The table as a whole buffer. -/
abbrev tbM2 : Memref sig .tc .smem S127 .i32 := Memref.whole main_v60
/-- It is a whole buffer. -/
abbrev htbM2 : tbM2.IsWhole := Memref.isWhole_whole _
/-- The table as a whole buffer. -/
abbrev tbM3 : Memref sig .tc .smem S127 .i32 := Memref.whole main_v67
/-- It is a whole buffer. -/
abbrev htbM3 : tbM3.IsWhole := Memref.isWhole_whole _
/-- The table as a whole buffer. -/
abbrev tbM4 : Memref sig .tc .smem S127 .i32 := Memref.whole main_v53
/-- It is a whole buffer. -/
abbrev htbM4 : tbM4.IsWhole := Memref.isWhole_whole _
/-- The table as a whole buffer. -/
abbrev tbM5 : Memref sig .tc .smem S127 .i32 := Memref.whole main_v47
/-- It is a whole buffer. -/
abbrev htbM5 : tbM5.IsWhole := Memref.isWhole_whole _

/-- A table's buffer on core `c`: its contents type, and it held at half the full share at `f`. -/
abbrev TbBuf (c : Dev nD) {S : Shape} {e : EltTy} (M : Memref sig .tc .smem S e) : Type := Buf (Elt F) (M.view.loc (c : Thread nD τ))
/-- A table's buffer, held at its contents. -/
abbrev tbPt (c : Dev nD) {S : Shape} {e : EltTy} (M : Memref sig .tc .smem S e) (f : TbBuf (F := F) c M) : sProp 𝕄 :=
  M.view.loc (c : Thread nD τ) ↦{fullShare.right} f

/-- What the body leaves in the output block: at a live item that is the first of its tile the product of the blocks, scaled and
    rounded; at a live item that is not, the same in the rows of the item and the block as it was in the others; at an item that
    is not live the block as it was. -/
def bodyOut (wt wlo whi wf wl : BitVec 32) (x0 : Vec F S256x2048 .fp8e4m3) (x1 : Vec F S256x1 .f32) (x2 : Vec F S1x2048x1536 .fp8e4m3)
    (x3 : Vec F S1x1x1536 .f32) (x4 : Vec F S256x1536 .bf16) : Vec F S256x1536 .bf16 :=
  if k0_cond1 wl = 1#1 then
    if k0_cond3 wf = 1#1 then
      k0_pay2 x0 x2 x1 x3 wt wlo whi (if k0_cond2 wf = 1#1 then k0_pay1 x0 x2 x1 x3 else x4)
    else if k0_cond2 wf = 1#1 then k0_pay1 x0 x2 x1 x3 else x4
  else x4

/-- The one index a scalar load at the offset of grid point `i` names is that point's. -/
theorem word_index (i : grid0.Coords) (off : Fin 1 → Nat) (hoff : off 0 = (i 0).val) (hin : ∀ a, off a + S1.size a ≤ S127.size a)
    (h1 : 0 < (Rect.unit (s := S127) off S1.size hin).shape.numel) :
    (Rect.unit (s := S127) off S1.size hin).emb (Shape.Idx.first h1) = at127 i := by
  funext a
  obtain rfl : a = 0 := Subsingleton.elim _ _
  apply Fin.ext
  show off 0 + 1 * 0 = (i 0).val
  omega

/-- The step's place in a table is the step. -/
theorem off1_val (i : grid0.Coords) : k0_off1 i 0 = (i 0).val := by
  have h : (i 0).val < 127 := (i 0).isLt
  show (BitVec.ofNat 32 (i 0).val).toNat = _
  rw [BitVec.toNat_ofNat]; omega
/-- The step's place in a table is the step. -/
theorem off2_val (i : grid0.Coords) : k0_off2 i 0 = (i 0).val := off1_val i
/-- The step's place in a table is the step. -/
theorem off3_val (i : grid0.Coords) : k0_off3 i 0 = (i 0).val := off1_val i

set_option maxHeartbeats 1000000 in
theorem body_run (c : Dev nD) (i : grid0.Coords) (arg7 : Memref sig .tc .vmem S256x2048 .fp8e4m3) (harg7 : arg7.IsWhole) (arg8 : Memref sig .tc .vmem S256x1 .f32) (harg8 : arg8.IsWhole) (arg9 : Memref sig .tc .vmem S1x2048x1536 .fp8e4m3) (harg9 : arg9.IsWhole) (arg10 : Memref sig .tc .vmem S1x1x1536 .f32) (harg10 : arg10.IsWhole) (arg11 : Memref sig .tc .vmem S256x1536 .bf16) (harg11 : arg11.IsWhole)
    (x0 : Vec F S256x2048 .fp8e4m3) (x1 : Vec F S256x1 .f32) (x2 : Vec F S1x2048x1536 .fp8e4m3) (x3 : Vec F S1x1x1536 .f32) (x4 : Vec F S256x1536 .bf16) (xt0 : TbBuf (F := F) c tbM0) (xt1 : TbBuf (F := F) c tbM1) (xt2 : TbBuf (F := F) c tbM2) (xt3 : TbBuf (F := F) c tbM3) (xt4 : TbBuf (F := F) c tbM4) (xt5 : TbBuf (F := F) c tbM5) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare x4 ∗ tbPt c tbM0 xt0 ∗ tbPt c tbM1 xt1 ∗ tbPt c tbM2 xt2 ∗ tbPt c tbM3 xt3 ∗ tbPt c tbM4 xt4 ∗ tbPt c tbM5 xt5
            ∗ (iprop(owns (c : Thread nD τ) arg7 fullShare x0 ∗ owns (c : Thread nD τ) arg8 fullShare x1 ∗ owns (c : Thread nD τ) arg9 fullShare x2 ∗ owns (c : Thread nD τ) arg10 fullShare x3 ∗ owns (c : Thread nD τ) arg11 fullShare (bodyOut (xt0 (at127 i)) (xt2 (at127 i)) (xt3 (at127 i)) (xt4 (at127 i)) (xt5 (at127 i)) x0 x1 x2 x3 x4) ∗ tbPt c tbM0 xt0 ∗ tbPt c tbM1 xt1 ∗ tbPt c tbM2 xt2 ∗ tbPt c tbM3 xt3 ∗ tbPt c tbM4 xt4 ∗ tbPt c tbM5 xt5) -∗ K ⟨⟩))
          ⊢ wp frame (wpE (defs₀ (F := F)) Variants.none c none) E (cc0__body i tbM0 htbM0 tbM1 htbM1 tbM2 htbM2 tbM3 htbM3 tbM4 htbM4 tbM5 htbM5 arg7 harg7 arg8 harg8 arg9 harg9 arg10 harg10 arg11 harg11) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, HT0, HT1, HT2, HT3, HT4, HT5, Hk⟩
    obtain rfl := harg7.eq_unread hf0; obtain rfl := harg8.eq_unread hf1; obtain rfl := harg9.eq_unread hf2; obtain rfl := harg10.eq_unread hf3
    obtain rfl := harg11.eq_unread hf4
    sl_exec
    have e1 : body_run.sl.r c i xt5 = xt5 (at127 i) := congrArg xt5 (word_index i _ (off1_val i) _ _)
    have e2 : body_run.sl.r_4 c i xt4 = xt4 (at127 i) := congrArg xt4 (word_index i _ (off2_val i) _ _)
    have e3 : body_run.sl.r_5 c i xt4 = xt4 (at127 i) := congrArg xt4 (word_index i _ (off3_val i) _ _)
    have e4 : body_run.sl.r_1 c i xt0 = xt0 (at127 i) := congrArg xt0 (word_index i _ (off2_val i) _ _)
    have e5 : body_run.sl.r_2 c i xt2 = xt2 (at127 i) := congrArg xt2 (word_index i _ (off2_val i) _ _)
    have e6 : body_run.sl.r_3 c i xt3 = xt3 (at127 i) := congrArg xt3 (word_index i _ (off2_val i) _ _)
    have a7 : View.readAt (Elt F) arg7.view (Rect.unit (s := S256x2048) ![0, 0] S256x2048.size inb_S256x2048_S256x2048_0_0).toLoadRect (harg7.unread x0) = x0 :=
      (View.readAt_full arg7.view (harg7.unread x0) inb_S256x2048_S256x2048_0_0).trans hf0
    have a8 : View.readAt (Elt F) arg8.view (Rect.unit (s := S256x1) ![0, 0] S256x1.size inb_S256x1_S256x1_0_0).toLoadRect (harg8.unread x1) = x1 :=
      (View.readAt_full arg8.view (harg8.unread x1) inb_S256x1_S256x1_0_0).trans hf1
    have a9 : View.readAt (Elt F) arg9.view (Rect.unit (s := S1x2048x1536) ![0, 0, 0] S1x2048x1536.size inb_S1x2048x1536_S1x2048x1536_0_0_0).toLoadRect (harg9.unread x2) = x2 :=
      (View.readAt_full arg9.view (harg9.unread x2) inb_S1x2048x1536_S1x2048x1536_0_0_0).trans hf2
    have a10 : View.readAt (Elt F) arg10.view (Rect.unit (s := S1x1x1536) ![0, 0, 0] S1x1x1536.size inb_S1x1x1536_S1x1x1536_0_0_0).toLoadRect (harg10.unread x3) = x3 :=
      (View.readAt_full arg10.view (harg10.unread x3) inb_S1x1x1536_S1x1x1536_0_0_0).trans hf3
    sl_step
    iapply Hk
    isplitl [H0]
    · iexists _; isplitr; · ipureintro; exact harg7.read_unread _
      iexact H0
    isplitl [H1]
    · iexists _; isplitr; · ipureintro; exact harg8.read_unread _
      iexact H1
    isplitl [H2]
    · iexists _; isplitr; · ipureintro; exact harg9.read_unread _
      iexact H2
    isplitl [H3]
    · iexists _; isplitr; · ipureintro; exact harg10.read_unread _
      iexact H3
    isplitl [H4]
    · iexists _; isplitr; swap; · iexact H4
      ipureintro
      unfold body_run.sl.v43
      rw [e1, e2, e3, e4, e5, e6, a7, a8, a9, a10]
      unfold bodyOut
      split_ifs with h1 h2 h3
      · rw [View.read_writes_full, View.readAt_full, View.read_writes_full]
      · rw [View.read_writes_full, View.readAt_full, hf4]
      · rw [View.read_writes_full]
      · exact hf4
      · exact hf4
    isplitl [HT0]; · iexact HT0
    isplitl [HT1]; · iexact HT1
    isplitl [HT2]; · iexact HT2
    isplitl [HT3]; · iexact HT3
    isplitl [HT4]; · iexact HT4
    iexact HT5

end Cert.KernelIdeal.Run

end
-- ==== Proof.RunIdeal.lean ====
/- The pipelined call: what each staging buffer holds at each grid point, and that the body keeps it. The tables and arrays are
   those the call finds (`V`); nothing is asked of them but that the blocks the tables name lie inside the arrays (`ok0`) and that
   the words of the tables are in step (`Sched`). -/
module

public import proofs.«01_k».proof.Proof.BodyIdeal

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The tables' contents when the call is reached. -/
def tbl : pre0.Contents (Elt F) := fun j => V (0 : Dev nD) (pre0.ref j)
/-- On every device the tables hold those contents (there is one device). -/
theorem V_pre (c : Dev nD) (j : Fin 6) : V c (pre0.ref j) = tbl V j := by
  obtain rfl : c = 0 := Subsingleton.elim _ _; rfl
/-- Every block that the tables name lies inside its array. -/
abbrev Ok : Prop := ok0 (F := F) (tbl V)
/-- The tables, as admitted. -/
abbrev adm (hO : Ok V) : (pcfg0 (F := F)).Adm := ⟨tbl V, hO⟩
/-- The pipeline at these tables. -/
abbrev cfgM (hO : Ok V) : Pipeline.Cfg sig Λ₀ := cfg0 (adm V hO)

/-- The word of table `k` for grid point `t`. -/
abbrev wTile (t : Fin grid0.N) : BitVec 32 := (tbl V 0 : S127.Idx → BitVec 32) (at127 (grid0.coords t))
/-- The word for the group's first row, at a step. -/
abbrev wLo (t : Fin grid0.N) : BitVec 32 := (tbl V 2 : S127.Idx → BitVec 32) (at127 (grid0.coords t))
/-- The word for the group's end, at a step. -/
abbrev wHi (t : Fin grid0.N) : BitVec 32 := (tbl V 3 : S127.Idx → BitVec 32) (at127 (grid0.coords t))
/-- The word for a first visit, at a step. -/
abbrev wFirst (t : Fin grid0.N) : BitVec 32 := (tbl V 4 : S127.Idx → BitVec 32) (at127 (grid0.coords t))
/-- The word for a live item, at a step. -/
abbrev wLive (t : Fin grid0.N) : BitVec 32 := (tbl V 5 : S127.Idx → BitVec 32) (at127 (grid0.coords t))

/-- The tables are in step: the first item is live and the first of its tile; an item that is not the first of its tile has the
    tile of the item before it; an item that is not live is not the first of its tile. -/
structure Sched : Prop where
  live0 : ∀ t : Fin grid0.N, t.val = 0 → wLive V t = 1#32
  first0 : ∀ t : Fin grid0.N, t.val = 0 → wFirst V t = 1#32
  bit : ∀ t, wFirst V t = 0#32 ∨ wFirst V t = 1#32
  same : ∀ (t : Fin grid0.N) (h : t.val + 1 < grid0.N), wFirst V ⟨t.val + 1, h⟩ = 0#32 → wTile V ⟨t.val + 1, h⟩ = wTile V t
  dead : ∀ t, wLive V t ≠ 1#32 → wFirst V t = 0#32

/-- The tables' halves the call hands the body, table by table. -/
theorem PhiT_eq (c : Dev nD) : (Pipeline.ΦT pre0 (tbl V) c : sProp 𝕄) = iprop(tbPt c tbM0 (tbl V 0) ∗ tbPt c tbM1 (tbl V 1) ∗ tbPt c tbM2 (tbl V 2) ∗ tbPt c tbM3 (tbl V 3) ∗ tbPt c tbM4 (tbl V 4) ∗ tbPt c tbM5 (tbl V 5)) := by
  unfold Pipeline.ΦT Pipeline.prefHeld
  rw [show (Finset.univ : Finset (Fin 6)) = insert (0 : Fin 6) (insert (1 : Fin 6) (insert (2 : Fin 6) (insert (3 : Fin 6) (insert (4 : Fin 6) {(5 : Fin 6)})))) from by decide,
    bigSep_insert (by decide), bigSep_insert (by decide), bigSep_insert (by decide), bigSep_insert (by decide), bigSep_insert (by decide), bigSep_singleton]
  rfl

/-- Window `w`'s block at point `t`, read off its array as the call finds it. -/
def iblk (hO : Ok V) (c : Dev nD) (w : Fin (cfgM V hO).W) (t : Fin (cfgM V hO).N) : (((cfgM V hO).win w).xblock ((cfgM V hO).grid.coords t)).Idx → Elt F ((cfgM V hO).win w).elt :=
  (((cfgM V hO).win w).blk t).view.read (Elt F) (V c (Pipeline.arrRef spec0 w))

/-- An input window's current staging buffer holds its block at every point, fetched there or not. -/
theorem before_of_0 (hO : Ok V) {c : Dev nD} (dat : Dat τ (Elt F) Unit ℕ (UR sig nD τ) ℕ (cfgM V hO) c) (hA : dat.A 0 = V c (Pipeline.arrRef spec0 0))
    (hafter : ∀ t, dat.after 0 t = iblk V hO c 0 t) (t : Fin (cfgM V hO).N) (d) : dat.before 0 t d = iblk V hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Before a step this window holds its block of the array. -/
theorem before_of_1 (hO : Ok V) {c : Dev nD} (dat : Dat τ (Elt F) Unit ℕ (UR sig nD τ) ℕ (cfgM V hO) c) (hA : dat.A 1 = V c (Pipeline.arrRef spec0 1))
    (hafter : ∀ t, dat.after 1 t = iblk V hO c 1 t) (t : Fin (cfgM V hO).N) (d) : dat.before 1 t d = iblk V hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Before a step this window holds its block of the array. -/
theorem before_of_2 (hO : Ok V) {c : Dev nD} (dat : Dat τ (Elt F) Unit ℕ (UR sig nD τ) ℕ (cfgM V hO) c) (hA : dat.A 2 = V c (Pipeline.arrRef spec0 2))
    (hafter : ∀ t, dat.after 2 t = iblk V hO c 2 t) (t : Fin (cfgM V hO).N) (d) : dat.before 2 t d = iblk V hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Before a step this window holds its block of the array. -/
theorem before_of_3 (hO : Ok V) {c : Dev nD} (dat : Dat τ (Elt F) Unit ℕ (UR sig nD τ) ℕ (cfgM V hO) c) (hA : dat.A 3 = V c (Pipeline.arrRef spec0 3))
    (hafter : ∀ t, dat.after 3 t = iblk V hO c 3 t) (t : Fin (cfgM V hO).N) (d) : dat.before 3 t d = iblk V hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- One step of the output block: what the body at point `t` makes of the block it finds. -/
def outStep (hO : Ok V) (c : Dev nD) (t : Fin grid0.N) (x4 : Vec F S256x1536 .bf16) : Vec F S256x1536 .bf16 :=
  bodyOut (wTile V t) (wLo V t) (wHi V t) (wFirst V t) (wLive V t) (iblk V hO c 0 t) (iblk V hO c 1 t) (iblk V hO c 2 t) (iblk V hO c 3 t) x4

/-- The output block after the body at point `n`: the steps from the first point on (the first finds nothing it keeps). -/
def outAt (hO : Ok V) (c : Dev nD) : (n : ℕ) → n < grid0.N → Vec F S256x1536 .bf16
  | 0, h => k0_pay1 (iblk V hO c 0 ⟨0, h⟩) (iblk V hO c 2 ⟨0, h⟩) (iblk V hO c 1 ⟨0, h⟩) (iblk V hO c 3 ⟨0, h⟩)
  | n + 1, h => outStep V hO c ⟨n + 1, h⟩ (outAt hO c n (Nat.lt_of_succ_lt h))

/-- The proof data of the call on core `c`: the arrays as the call finds them; after the body at point `t` each input's buffer at its
    block and the output's at `outAt`; the tables held throughout; nothing owed; full shares. -/
def dats (hO : Ok V) (_ : Fin 1) (c : Dev nD) : Dat τ (Elt F) Unit ℕ (UR sig nD τ) ℕ (cfgM V hO) c where
  A w := V c (Pipeline.arrRef spec0 w)
  after w t := match w with
    | ⟨0, _⟩ => iblk V hO c 0 t
    | ⟨1, _⟩ => iblk V hO c 1 t
    | ⟨2, _⟩ => iblk V hO c 2 t
    | ⟨3, _⟩ => iblk V hO c 3 t
    | ⟨4, _⟩ => outAt V hO c t.val t.isLt
  Φ _ := iprop(Pipeline.ΦA spec0 c ∗ Pipeline.ΦT pre0 (tbl V) c)
  q _ := fullShare
  owed _ := 0

/-- The arrays at the start are what the host lines left. -/
theorem A_eq (hO : Ok V) (c : Dev nD) (w : Fin (cfgM V hO).W) : (dats V hO 0 c).A w = V c (Pipeline.arrRef spec0 w) := by
  dsimp only [dats]

/-- What this window holds after a step. -/
theorem after_0 (hO : Ok V) (c : Dev nD) (t : Fin (cfgM V hO).N) : (dats V hO 0 c).after 0 t = iblk V hO c 0 t := by dsimp only [dats]; try rfl
/-- What this window holds after a step. -/
theorem after_1 (hO : Ok V) (c : Dev nD) (t : Fin (cfgM V hO).N) : (dats V hO 0 c).after 1 t = iblk V hO c 1 t := by dsimp only [dats]; try rfl
/-- What this window holds after a step. -/
theorem after_2 (hO : Ok V) (c : Dev nD) (t : Fin (cfgM V hO).N) : (dats V hO 0 c).after 2 t = iblk V hO c 2 t := by dsimp only [dats]; try rfl
/-- What this window holds after a step. -/
theorem after_3 (hO : Ok V) (c : Dev nD) (t : Fin (cfgM V hO).N) : (dats V hO 0 c).after 3 t = iblk V hO c 3 t := by dsimp only [dats]; try rfl
/-- What this window holds after a step. -/
theorem after_4 (hO : Ok V) (c : Dev nD) (t : Fin (cfgM V hO).N) : (dats V hO 0 c).after 4 t = outAt V hO c t.val t.isLt := by dsimp only [dats]; try rfl

/-- What this window holds before a step. -/
theorem before_0 (hO : Ok V) (c : Dev nD) (t : Fin (cfgM V hO).N) (d) : (dats V hO 0 c).before 0 t d = iblk V hO c 0 t :=
  before_of_0 V hO (dats V hO 0 c) (A_eq V hO c 0) (after_0 V hO c) t d
/-- What this window holds before a step. -/
theorem before_1 (hO : Ok V) (c : Dev nD) (t : Fin (cfgM V hO).N) (d) : (dats V hO 0 c).before 1 t d = iblk V hO c 1 t :=
  before_of_1 V hO (dats V hO 0 c) (A_eq V hO c 1) (after_1 V hO c) t d
/-- What this window holds before a step. -/
theorem before_2 (hO : Ok V) (c : Dev nD) (t : Fin (cfgM V hO).N) (d) : (dats V hO 0 c).before 2 t d = iblk V hO c 2 t :=
  before_of_2 V hO (dats V hO 0 c) (A_eq V hO c 2) (after_2 V hO c) t d
/-- What this window holds before a step. -/
theorem before_3 (hO : Ok V) (c : Dev nD) (t : Fin (cfgM V hO).N) (d) : (dats V hO 0 c).before 3 t d = iblk V hO c 3 t :=
  before_of_3 V hO (dats V hO 0 c) (A_eq V hO c 3) (after_3 V hO c) t d

/-! ## Where the output window is idle and where it is written back -/

/-- The test for a live item. -/
theorem cond1_iff (w : BitVec 32) : k0_cond1 w = 1#1 ↔ w = 1#32 := by
  unfold k0_cond1
  constructor
  · intro h; by_contra hw; revert h; simp [Scalar.cmpi, Scalar.extui, IntOp.cmpi, beq_false_of_ne hw]
  · rintro rfl; decide
/-- The test for a first visit. -/
theorem cond2_iff (w : BitVec 32) : k0_cond2 w = 1#1 ↔ w = 1#32 := cond1_iff w
/-- The test for a later visit. -/
theorem cond3_iff (w : BitVec 32) : k0_cond3 w = 1#1 ↔ w = 0#32 := by
  unfold k0_cond3
  constructor
  · intro h; by_contra hw; revert h; simp [Scalar.cmpi, Scalar.extui, IntOp.cmpi, beq_false_of_ne hw]
  · rintro rfl; decide

/-- The table's word the idle table reads at point `t`. -/
theorem atD_word (k : Fin 6) (x : S127.Idx → BitVec 32) (i : grid0.Coords) (off : Fin 1 → Nat) (hoff : off 0 = (i 0).val) :
    (if h : ∀ a, off a + 1 ≤ S127.size a then x (fun a => ⟨off a, h a⟩) else default) = x (at127 i) := by
  have hi : (i 0).val < 127 := (i 0).isLt
  have h : ∀ a, off a + 1 ≤ S127.size a := fun a => by
    obtain rfl : a = 0 := Subsingleton.elim _ _
    show off 0 + 1 ≤ 127; omega
  rw [dif_pos h]
  congr 1; funext a
  obtain rfl : a = 0 := Subsingleton.elim _ _
  exact Fin.ext hoff

/-- At a point where the output window is idle the item is not live, and so not the first of its tile. -/
theorem idle_of (hO : Ok V) (hS : Sched V) (t : Fin (cfgM V hO).N) (hi : (cfgM V hO).idle 4 ((cfgM V hO).grid.coords t) = true) : wFirst V t = 0#32 ∧ wLive V t ≠ 1#32 := by
  have e5 : (tbl V).atD 5 (k0_off1 (grid0.coords t)) = wLive V t := atD_word 5 (tbl V 5) (grid0.coords t) _ (off1_val _)
  have e4 : (tbl V).atD 4 (k0_off2 (grid0.coords t)) = wFirst V t := atD_word 4 (tbl V 4) (grid0.coords t) _ (off2_val _)
  have e3 : (tbl V).atD 4 (k0_off3 (grid0.coords t)) = wFirst V t := atD_word 4 (tbl V 4) (grid0.coords t) _ (off3_val _)
  have h : (!(k0_cond1 ((tbl V).atD 5 (k0_off1 (grid0.coords t))) == 1#1 && k0_cond2 ((tbl V).atD 4 (k0_off2 (grid0.coords t))) == 1#1)
      && !(k0_cond1 ((tbl V).atD 5 (k0_off1 (grid0.coords t))) == 1#1 && k0_cond3 ((tbl V).atD 4 (k0_off3 (grid0.coords t))) == 1#1)) = true := hi
  rw [e5, e4, e3] at h
  have hl : wLive V t ≠ 1#32 := by
    intro hl
    rcases hS.bit t with h0 | h1
    · rw [hl, h0] at h; revert h; decide
    · rw [hl, h1] at h; revert h; decide
  exact ⟨hS.dead t hl, hl⟩

/-- The output block's number at a point is the word of the tile table. -/
theorem index_4 (hO : Ok V) (t : Fin (cfgM V hO).N) : ((cfgM V hO).win 4).index t = ![(wTile V t).toNat, 0] := by
  show cc0_transform_4 _ _ (tbl V) (grid0.coords t) = _
  unfold cc0_transform_4
  have e : (tbl V).at 0 (Rect.unit (s := S127) (k0_off1 (grid0.coords t)) S1.size (Facts₀.k0_off1_inb _)) Facts₀.numel1_S1 = wTile V t :=
    congrArg (tbl V 0) (word_index (grid0.coords t) _ (off1_val _) _ _)
  exact congrArg (fun w : BitVec 32 => (![w.toNat, 0] : Fin 2 → ℕ)) e

/-- Where the next point has the same tile, the output block is not written back. -/
theorem flush_false (hO : Ok V) (t : Fin (cfgM V hO).N) (h : t.val + 1 < grid0.N) (e : wTile V ⟨t.val + 1, h⟩ = wTile V t) : ((cfgM V hO).win 4).flush t = false := by
  unfold Pipeline.Window.flush
  have h1 : ¬ (t.val + 1 = (cfgM V hO).grid.N) := fun h' => absurd h (by rw [h']; exact Nat.lt_irrefl _)
  have h2 : ¬ (∃ h : t.val + 1 < (cfgM V hO).grid.N, ((cfgM V hO).win 4).index ⟨t.val + 1, h⟩ ≠ ((cfgM V hO).win 4).index t) := by
    rintro ⟨h', hne⟩
    refine hne ?_
    rw [index_4, index_4]
    exact congrArg (fun w : BitVec 32 => (![w.toNat, 0] : Fin 2 → ℕ)) e
  rw [decide_eq_false h1, decide_eq_false h2]
  simp

/-- At an item that is not the first of its tile the output buffer still holds what the item before it left. -/
theorem fresh_false (hO : Ok V) (hS : Sched V) : ∀ (n : ℕ) (h : n < grid0.N), wFirst V ⟨n, h⟩ = 0#32 → (cfgM V hO).fresh 4 n = false
  | 0, h, h0 => by
    have := hS.first0 ⟨0, h⟩ rfl
    rw [this] at h0; exact absurd h0 (by decide)
  | n + 1, h, h0 => by
    have hn : n < grid0.N := Nat.lt_of_succ_lt h
    rw [(cfgM V hO).fresh_succ 4 n hn, flush_false V hO ⟨n, hn⟩ h (hS.same ⟨n, hn⟩ h h0), Bool.false_or]
    cases hi : (cfgM V hO).idle 4 ((cfgM V hO).grid.coords ⟨n, hn⟩) with
    | false => rfl
    | true => rw [fresh_false hO hS n hn (idle_of V hO hS ⟨n, hn⟩ hi).1]; rfl

/-- A step at an item that is not live changes nothing. -/
theorem outStep_dead (hO : Ok V) (c : Dev nD) (t : Fin grid0.N) (x4) (h : wLive V t ≠ 1#32) : outStep V hO c t x4 = x4 := by
  unfold outStep bodyOut
  rw [if_neg (fun h' => h ((cond1_iff _).1 h'))]

/-- A step at a live first item does not read the block it finds. -/
theorem outStep_first (hO : Ok V) (c : Dev nD) (t : Fin grid0.N) (x4) (h : wLive V t = 1#32) (h1 : wFirst V t = 1#32) :
    outStep V hO c t x4 = k0_pay1 (iblk V hO c 0 t) (iblk V hO c 2 t) (iblk V hO c 1 t) (iblk V hO c 3 t) := by
  unfold outStep bodyOut
  rw [h, h1]
  rw [if_pos (by decide), if_neg (by decide), if_pos (by decide)]

/-- A step at a live item that is not the first of its tile: the masked store. -/
theorem outStep_next (hO : Ok V) (c : Dev nD) (t : Fin grid0.N) (x4) (h : wLive V t = 1#32) (h1 : wFirst V t = 0#32) :
    outStep V hO c t x4 = k0_pay2 (iblk V hO c 0 t) (iblk V hO c 2 t) (iblk V hO c 1 t) (iblk V hO c 3 t) (wTile V t) (wLo V t) (wHi V t) x4 := by
  unfold outStep bodyOut
  rw [h, h1]
  rw [if_pos (by decide), if_pos (by decide), if_neg (by decide)]

/-- The first step writes the whole tile. -/
theorem outAt_zero (hO : Ok V) (c : Dev nD) (h : 0 < grid0.N) : outAt V hO c 0 h = k0_pay1 (iblk V hO c 0 ⟨0, h⟩) (iblk V hO c 2 ⟨0, h⟩) (iblk V hO c 1 ⟨0, h⟩) (iblk V hO c 3 ⟨0, h⟩) := rfl
/-- A later step starts from what the one before left. -/
theorem outAt_succ (hO : Ok V) (c : Dev nD) (n : ℕ) (h : n + 1 < grid0.N) : outAt V hO c (n + 1) h = outStep V hO c ⟨n + 1, h⟩ (outAt V hO c n (Nat.lt_of_succ_lt h)) := rfl

/-- At an item that is not the first of its tile the body finds what the step before left. -/
theorem before_4 (hO : Ok V) (hS : Sched V) (c : Dev nD) (t : Fin (cfgM V hO).N) (d) (h0 : wFirst V t = 0#32) :
    ∃ (n : ℕ) (h : n + 1 < grid0.N), t = ⟨n + 1, h⟩ ∧ (dats V hO 0 c).before 4 t d = outAt V hO c n (Nat.lt_of_succ_lt h) := by
  have hcarry : ∀ (t : Fin (cfgM V hO).N) (_ : t.val ≠ 0), (cfgM V hO).idle 4 ((cfgM V hO).grid.coords t) = true → (cfgM V hO).fresh 4 t.val = false →
      (dats V hO 0 c).after 4 t = (dats V hO 0 c).after 4 ⟨t.val - 1, by omega⟩ := by
    intro t ht hi _
    rw [after_4, after_4]
    obtain ⟨n, hn⟩ := t
    cases n with
    | zero => exact absurd rfl ht
    | succ n =>
      show outAt V hO c (n + 1) hn = _
      rw [outAt_succ, outStep_dead V hO c _ _ (idle_of V hO hS ⟨n + 1, hn⟩ hi).2]
      rfl
  obtain ⟨n, hn⟩ := t
  cases n with
  | zero =>
    have := hS.first0 ⟨0, hn⟩ rfl
    exact absurd (this.symm.trans h0) (by decide)
  | succ n =>
    refine ⟨n, hn, rfl, ?_⟩
    rw [(dats V hO 0 c).before_out_traj 4 rfl (fun _ _ => rfl) hcarry (n + 1) ⟨n + 1, hn⟩ rfl d, fresh_false V hO hS (n + 1) hn h0, if_neg Bool.false_ne_true, after_4]
    rfl

/-- What the body makes of what it finds is the trajectory's block. -/
theorem step_eq (hO : Ok V) (hS : Sched V) (c : Dev nD) (t : Fin (cfgM V hO).N) (d) : outStep V hO c t ((dats V hO 0 c).before 4 t d) = outAt V hO c t.val t.isLt := by
  rcases hS.bit t with h0 | h1
  · obtain ⟨n, h, rfl, e⟩ := before_4 V hO hS c t d h0
    rw [e]; exact (outAt_succ V hO c n h).symm
  · have hl : wLive V t = 1#32 := by
      by_contra hl
      exact absurd ((hS.dead t hl).symm.trans h1) (by decide)
    refine (outStep_first V hO c t _ hl h1).trans ?_
    obtain ⟨n, hn⟩ := t
    cases n with
    | zero => exact (outAt_zero V hO c hn).symm
    | succ n =>
      show _ = outAt V hO c (n + 1) hn
      rw [outAt_succ, outStep_first V hO c _ _ hl h1]

/-! ## The body obligation -/

/-- The staging buffer of this window at a step. -/
abbrev ms_0 (hO : Ok V) (t : Fin (cfgM V hO).N) := spec0_0.stage ((cfgM V hO).slots t 0)
/-- The staging buffer of this window at a step. -/
abbrev ms_1 (hO : Ok V) (t : Fin (cfgM V hO).N) := spec0_1.stage ((cfgM V hO).slots t 1)
/-- The staging buffer of this window at a step. -/
abbrev ms_2 (hO : Ok V) (t : Fin (cfgM V hO).N) := spec0_2.stage ((cfgM V hO).slots t 2)
/-- The staging buffer of this window at a step. -/
abbrev ms_3 (hO : Ok V) (t : Fin (cfgM V hO).N) := spec0_3.stage ((cfgM V hO).slots t 3)
/-- The staging buffer of this window at a step. -/
abbrev ms_4 (hO : Ok V) (t : Fin (cfgM V hO).N) := spec0_4.stage ((cfgM V hO).slots t 4)

/-- The body at point `t`, on what the pipeline calls it with. -/
abbrev bodyAt (hO : Ok V) (t : Fin (cfgM V hO).N) : Prog (TpuEff nD τ sig (Elt F) Λ₀ .tc) PUnit :=
  cc0__body (grid0.coords t) tbM0 htbM0 tbM1 htbM1 tbM2 htbM2 tbM3 htbM3 tbM4 htbM4 tbM5 htbM5 (ms_0 V hO t) (hstage0_0 (((cfgM V hO).slots t 0).cast nbuf0_0)) (ms_1 V hO t) (hstage0_1 (((cfgM V hO).slots t 1).cast nbuf0_1)) (ms_2 V hO t) (hstage0_2 (((cfgM V hO).slots t 2).cast nbuf0_2)) (ms_3 V hO t) (hstage0_3 (((cfgM V hO).slots t 3).cast nbuf0_3)) (ms_4 V hO t) (hstage0_4 (((cfgM V hO).slots t 4).cast nbuf0_4))

/-- What the body is called with at point `t`, the windows one by one, -/
def bodyPre (hO : Ok V) (c : Dev nD) (t : Fin (cfgM V hO).N) : sProp 𝕄 :=
  iprop((dats V hO 0 c).Φ t.castSucc ∗ (dats V hO 0 c).owesAt () t.castSucc
    ∗ (∃ d, owns (c : Thread nD τ) (ms_0 V hO t) fullShare ((dats V hO 0 c).before 0 t d))
    ∗ (∃ d, owns (c : Thread nD τ) (ms_1 V hO t) fullShare ((dats V hO 0 c).before 1 t d))
    ∗ (∃ d, owns (c : Thread nD τ) (ms_2 V hO t) fullShare ((dats V hO 0 c).before 2 t d))
    ∗ (∃ d, owns (c : Thread nD τ) (ms_3 V hO t) fullShare ((dats V hO 0 c).before 3 t d))
    ∗ (∃ d, owns (c : Thread nD τ) (ms_4 V hO t) fullShare ((dats V hO 0 c).before 4 t d)))

/-- what it returns of the output window: where that window is idle and not written back, what the body found; elsewhere the
    trajectory's block -/
def outPost (hO : Ok V) (c : Dev nD) (t : Fin (cfgM V hO).N) : sProp 𝕄 :=
  match (cfgM V hO).idle 4 ((cfgM V hO).grid.coords t) with
  | true =>
    match ((cfgM V hO).win 4).flush t with
    | false => iprop(∃ d, owns (c : Thread nD τ) (ms_4 V hO t) fullShare ((dats V hO 0 c).before 4 t d))
    | true => owns (c : Thread nD τ) (ms_4 V hO t) fullShare ((dats V hO 0 c).after 4 t)
  | false => owns (c : Thread nD τ) (ms_4 V hO t) fullShare ((dats V hO 0 c).after 4 t)

/-- and what it returns. -/
def bodyPost (hO : Ok V) (c : Dev nD) (t : Fin (cfgM V hO).N) : sProp 𝕄 :=
  iprop((dats V hO 0 c).Φ t.succ ∗ (dats V hO 0 c).owesAt () t.succ
    ∗ owns (c : Thread nD τ) (ms_0 V hO t) fullShare ((dats V hO 0 c).after 0 t)
    ∗ owns (c : Thread nD τ) (ms_1 V hO t) fullShare ((dats V hO 0 c).after 1 t)
    ∗ owns (c : Thread nD τ) (ms_2 V hO t) fullShare ((dats V hO 0 c).after 2 t)
    ∗ owns (c : Thread nD τ) (ms_3 V hO t) fullShare ((dats V hO 0 c).after 3 t)
    ∗ outPost V hO c t)

/-- The trajectory's block is what the obligation asks of the output window. -/
theorem outPost_of (hO : Ok V) (hS : Sched V) (c : Dev nD) (t : Fin (cfgM V hO).N) :
    owns (c : Thread nD τ) (ms_4 V hO t) fullShare ((dats V hO 0 c).after 4 t) ⊢ outPost V hO c t := by
  unfold outPost
  cases hi : (cfgM V hO).idle 4 ((cfgM V hO).grid.coords t) with
  | false => exact .rfl
  | true =>
    cases hf : ((cfgM V hO).win 4).flush t with
    | true => exact .rfl
    | false =>
      obtain ⟨h0, hl⟩ := idle_of V hO hS t hi
      have e : ∀ d, (dats V hO 0 c).after 4 t = (dats V hO 0 c).before 4 t d := fun d => by
        rw [after_4, ← step_eq V hO hS c t d]
        exact outStep_dead V hO c t _ hl
      dsimp only
      iintro H
      iexists (dats V hO 0 c).after 4 t
      rw [← e]
      iexact H

/-- The body at any point. -/
theorem sound_body (hO : Ok V) (hS : Sched V) (c : Dev nD) (t : Fin (cfgM V hO).N) :
    bodyPre V hO c t ⊢ wp frame (wpE (defs₀ (F := F)) Variants.none c none) Set.univ (bodyAt V hO t) (fun _ => bodyPost V hO c t) := by
  unfold bodyPre bodyPost bodyAt
  simp only [before_0, before_1, before_2, before_3]
  rw [show (dats V hO 0 c).Φ t.succ = (dats V hO 0 c).Φ t.castSucc from rfl,
    show (dats V hO 0 c).owesAt () t.succ = (dats V hO 0 c).owesAt () t.castSucc from rfl,
    after_0, after_1, after_2, after_3]
  rw [show (dats V hO 0 c).Φ t.castSucc = iprop(Pipeline.ΦA spec0 c ∗ Pipeline.ΦT pre0 (tbl V) c) from rfl, PhiT_eq]
  iintro ⟨⟨HΦ, ⟨HT0, HT1, HT2, HT3, HT4, HT5⟩⟩, Ho, ⟨%d0, H0⟩, ⟨%d1, H1⟩, ⟨%d2, H2⟩, ⟨%d3, H3⟩, ⟨%d4, H4⟩⟩
  iapply ((body_run c (grid0.coords t) _ _ _ _ _ _ _ _ _ _ (iblk V hO c 0 t) (iblk V hO c 1 t) (iblk V hO c 2 t) (iblk V hO c 3 t) ((dats V hO 0 c).before 4 t d4) (tbl V 0) (tbl V 1) (tbl V 2) (tbl V 3) (tbl V 4) (tbl V 5)) Set.univ _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [HT3]; · iexact HT3
  isplitl [HT4]; · iexact HT4
  isplitl [HT5]; · iexact HT5
  iintro ⟨H0, H1, H2, H3, H4, HT0, HT1, HT2, HT3, HT4, HT5⟩
  isplitl [HΦ HT0 HT1 HT2 HT3 HT4 HT5]
  · isplitl [HΦ]
    · iexact HΦ
    isplitl [HT0]; · iexact HT0
    isplitl [HT1]; · iexact HT1
    isplitl [HT2]; · iexact HT2
    isplitl [HT3]; · iexact HT3
    isplitl [HT4]; · iexact HT4
    iexact HT5
  isplitl [Ho]; · iexact Ho
  isplitl [H0]; · iexact H0
  isplitl [H1]; · iexact H1
  isplitl [H2]; · iexact H2
  isplitl [H3]; · iexact H3
  iapply (outPost_of V hO hS c t)
  rw [after_4, ← step_eq V hO hS c t d4]
  iexact H4

/-- The body table's row at point `t`'s slots is the body as `bodyAt` spells it. -/
theorem defs₀_row (hO : Ok V) (t : Fin (cfgM V hO).N) :
    defs₀ (F := F) .tc (cfgM V hO).body ((cfgM V hO).bodyArgs t ((cfgM V hO).slots t)) = bodyAt V hO t := by
  unfold defs₀; rw [Defs.onTc_tc]

/-- The library's body obligation, at every point. -/
theorem body_obligation (hO : Ok V) (hS : Sched V) (c : Dev nD) : BodyObligation (dats (F := F) V hO 0 c) (defs₀ (F := F)) Variants.none () Set.univ := fun t => by
  rw [bigSep_W0, bigSep_W0, defs₀_row V hO]
  exact triple_restated (sound_body V hO hS c t) rfl .rfl fun _ => .rfl

end Cert.KernelIdeal.Run

end
-- ==== Proof.LaunchIdeal.lean ====
/- The launch: the host lines that compute the tables, the pipelined call, the reshape after it. The run ends with the result the
   reshaped output array and every argument unchanged, under the two conditions on the tables. -/
module

public import proofs.«01_k».proof.Proof.RunIdeal
public import Idealize.ShloMosaic.Lib.Pipeline.FrameSuffix
public import Idealize.ShloMosaic.Lib.Claim
public import Idealize.ShloMosaic.Lib.StableHlo.RunRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The host lines before the call. -/
abbrev hostLines : List (List (HloOp τ sig (Elt F))) :=
  [hostOps0, hostOps0_1, hostOps0_2, hostOps0_3, hostOps0_4, hostOps0_5, hostOps0_6, hostOps0_7, hostOps0_8, hostOps0_9, hostOps0_10]

variable (m : (ℓ : Loc nD τ sig) → Buf (Elt F) ℓ) (ρ : Dev nD → PrngReg)

/-- What core `c`'s buffers hold when the call is reached. -/
def entryV (c : Dev nD) : Valuation τ sig (Elt F) := StableHlo.after (hostLines (F := F)).flatten (fun b => m (c, b))
/-- The same, buffer by buffer. -/
def Vm (c : Dev nD) (b : Ref sig .tc) : Buf (Elt F) ((c : Thread nD τ).loc b) := entryV m c (Proc.devRef .tc b)

/-- The host lines touch only the buffers of the core. -/
theorem lines_sub : (hostLines (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

/-- The host lines allocate nothing. -/
theorem lines_fresh : (hostLines (F := F)).Forall fun ops => ops.Forall fun op => op.fresh = ∅ := by
  simp only [List.Forall]; repeat' constructor

/-- The program reduces to the call continued by the reshape. -/
theorem hmain : Pipeline.HMainPK (Ix := Unit) (Name := ℕ) (U := UR sig nD τ) (Lvl := ℕ) (pcfgs (F := F)) 0 defs₀ Variants.none m main
    (fun c b => entryV m c (Proc.devRef .tc b)) (fun _ => Pipeline.chain ([hostOps1 (F := F)].map StableHlo.seq)) :=
  Pipeline.hmainP_around pcfgs 0 defs₀ Variants.none m main hostLines [hostOps1] lines_sub lines_fresh main_chain

/-- No host line writes an argument. -/
theorem V_main_arg0 (c : Dev nD) : Vm m c main_arg0 = m ((c : Thread nD τ).loc main_arg0) := by
  unfold Vm entryV; after_reads_simp
/-- The host lines leave this argument as it was. -/
theorem V_main_arg1 (c : Dev nD) : Vm m c main_arg1 = m ((c : Thread nD τ).loc main_arg1) := by
  unfold Vm entryV; after_reads_simp
/-- The host lines leave this argument as it was. -/
theorem V_main_arg2 (c : Dev nD) : Vm m c main_arg2 = m ((c : Thread nD τ).loc main_arg2) := by
  unfold Vm entryV; after_reads_simp
/-- The host lines leave this argument as it was. -/
theorem V_main_arg3 (c : Dev nD) : Vm m c main_arg3 = m ((c : Thread nD τ).loc main_arg3) := by
  unfold Vm entryV; after_reads_simp
/-- The host lines leave this argument as it was. -/
theorem V_main_arg4 (c : Dev nD) : Vm m c main_arg4 = m ((c : Thread nD τ).loc main_arg4) := by
  unfold Vm entryV; after_reads_simp

/-- The output array after the call. -/
abbrev outArr (hO : Ok (Vm m)) (c : Dev nD) : Vec F S24576x1536 .bf16 := (dats (Vm m) hO 0 c).arrAt 4 (cfgM (Vm m) hO).N

set_option backward.isDefEq.respectTransparency.types false in
/-- The launch. -/
theorem run_main (hO : Ok (Vm m)) (hS : Sched (Vm m)) : θ_run defs (onTc (τ := τ) (main (F := F))) (s₀ m ρ)
    (fun r => Pipeline.FramePost (Pipeline.pin pcfgs fun _ => adm (Vm m) hO) (dats (Vm m) hO) 0 (Pipeline.afterTail pcfgs (fun _ => adm (Vm m) hO) (dats (Vm m) hO) 0 (entryV m) [hostOps1]) r ∧ r.2.sem = fun _ => 0) :=
  Pipeline.θ_run_frameP_around pcfgs (fun _ => adm (Vm m) hO) (dats (Vm m) hO) (0 : Fin 1) launch0 defs₀ Variants.none m ρ main
    (hbody := fun c => (body_obligation (Vm m) hO hS c).loose) (hshare := fun c => (dats (Vm m) hO 0 c).share_full fun _ => rfl)
    (howed := fun _ _ => rfl) (V₀ := entryV m) (opss := [hostOps1])
    (hsub := by
      intro ops ho op h
      obtain rfl := List.mem_singleton.1 ho
      obtain rfl := List.mem_singleton.1 h
      exact Pipeline.sub_tailRefs _ _ _ hostOps1_sub (fun k hk => by
        rw [StableHlo.reshape_bufs, Finset.mem_insert, Finset.mem_singleton] at hk
        have : ∀ k : Fin 6, pre0.ref k ≠ main_v70 ∧ pre0.ref k ≠ main_v71 := by decide
        rcases hk with e | e
        · exact (this k).1 (Proc.devRef_injective _ e)
        · exact (this k).2 (Proc.devRef_injective _ e)))
    (hfresh := by
      intro ops ho op h
      obtain rfl := List.mem_singleton.1 ho
      obtain rfl := List.mem_singleton.1 h
      rfl)
    (hkeep := by
      intro ops ho op h
      obtain rfl := List.mem_singleton.1 ho
      obtain rfl := List.mem_singleton.1 h
      intro w hw
      rw [StableHlo.reshape_writes, Finset.mem_singleton] at hw
      have : ∀ w : Fin 5, Pipeline.arrRef spec0 w ≠ main_v71 := by decide
      exact this w (Proc.devRef_injective _ hw))
    (hmain := hmain m) (hA := A_eq (Vm m) hO) (hpf := V_pre (Vm m)) (hΦ := fun _ _ => rfl) (Q' := _) (hQ' := fun _ h => h)

/-- What the reshape leaves: it reads the output array. -/
theorem tail_v71 (hO : Ok (Vm m)) (c : Dev nD) :
    Pipeline.afterTail pcfgs (fun _ => adm (Vm m) hO) (dats (Vm m) hO) 0 (entryV m) [hostOps1] c main_v71
      = shapeCast S12x2048x1536 (outArr m hO c) shapeCasts_S24576x1536_S12x2048x1536 := by
  unfold Pipeline.afterTail
  have e := Pipeline.withArrays_arr spec0 (by decide) c (entryV m c) (fun w => (dats (Vm m) hO 0 c).arrAt w (cfgM (Vm m) hO).N) 4
  show StableHlo.after [_] _ _ = _
  rw [StableHlo.after_cons, StableHlo.after_nil, StableHlo.reshape_result]
  funext i
  exact congrArg (fun x : Vec F S24576x1536 .bf16 => shapeCast S12x2048x1536 x shapeCasts_S24576x1536_S12x2048x1536 i) e

/-- It writes nothing else. -/
theorem tail_rest (hO : Ok (Vm m)) (c : Dev nD) (b : Ref sig .tc) (hb : b ≠ main_v71) (hw : ∀ w, Pipeline.arrRef spec0 w ≠ b) :
    Pipeline.afterTail pcfgs (fun _ => adm (Vm m) hO) (dats (Vm m) hO) 0 (entryV m) [hostOps1] c b = Vm m c b := by
  unfold Pipeline.afterTail
  show StableHlo.after [_] _ _ = _
  rw [StableHlo.after_cons, StableHlo.after_nil, StableHlo.reshape_result_ne (h := hb)]
  exact Pipeline.withArrays_of_ne _ c _ _ b hw

/-- The run ends with the result the reshaped output array, the arguments unchanged, every counter at zero. -/
theorem run_value (hO : Ok (Vm m)) (hS : Sched (Vm m)) : θ_run defs (onTc (τ := τ) (main (F := F))) ⟨m, fun _ => 0, ρ⟩ (fun r => (∀ c : Dev nD,
      r.2.mem ((c : Thread nD τ).loc main_v71) = shapeCast S12x2048x1536 (outArr m hO c) shapeCasts_S24576x1536_S12x2048x1536
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) := by
  refine (θ_run defs _ _).mono (fun r h => ⟨fun c => ?_, h.2⟩) (run_main m ρ hO hS)
  obtain ⟨hw, hr⟩ := h.1 c
  have hrest : ∀ b : Ref sig .tc, b ∈ Pipeline.restRefs sig spec0 → b ≠ main_v71 → (∀ w, Pipeline.arrRef spec0 w ≠ b) → r.2.mem ((c : Thread nD τ).loc b) = Vm m c b :=
    fun b hb hn hw => (hr b hb).trans (tail_rest m hO c b hn hw)
  have hin : ∀ w : Fin 5, (dats (Vm m) hO 0 c).arrAt w (cfgM (Vm m) hO).N = Vm m c (Pipeline.arrRef spec0 w) → r.2.mem ((spec0 w).arr.view.loc (c : Thread nD τ)) = Vm m c (Pipeline.arrRef spec0 w) :=
    fun w e => (hw w).trans e
  refine ⟨(hr main_v71 (by decide : main_v71 ∈ Pipeline.restRefs sig spec0)).trans (tail_v71 m hO c), ?_, ?_, ?_, ?_, ?_⟩
  · exact (hin 0 (((dats (Vm m) hO 0 c).arrAt_in 0 rfl _).trans (A_eq (Vm m) hO c 0))).trans (V_main_arg0 m c)
  · exact (hrest main_arg1 (by decide) (by decide) (by decide)).trans (V_main_arg1 m c)
  · exact (hin 2 (((dats (Vm m) hO 0 c).arrAt_in 2 rfl _).trans (A_eq (Vm m) hO c 2))).trans (V_main_arg2 m c)
  · exact (hrest main_arg3 (by decide) (by decide) (by decide)).trans (V_main_arg3 m c)
  · exact (hrest main_arg4 (by decide) (by decide) (by decide)).trans (V_main_arg4 m c)

end Cert.KernelIdeal.Run

end
-- ==== Proof.TablesIdeal.lean ====
/- The tables as functions of the group sizes, and the words they hold. -/
module

public import proofs.«01_k».proof.Proof.LaunchIdeal
public import proofs.«01_k».proof.Proof.MoeWords

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The host lines, as functions of the sizes -/

section Lines
variable (a : IVec S32 32)

/-- A sum of the entries up to each. -/
def csum : IVec S32 32 :=
  Host.reduceWindow IntOp.addi ![32] ![1] ![31] ![0] a (broadcastInDim S_ ![] bcast_S_S_ (constantI S_ 32 0#32)) reduceWindows_S32_S32_w32s1p31_0 h_S_
/-- The first row of each group. -/
def hStart : IVec S32 32 := subi (csum a) a
/-- The first tile of each group. -/
def hFt : IVec S32 32 := pyDiv bcast_S_S32 (hStart a) (constantI S_ 32 256#32)
/-- The last tile of each group. -/
def hLt : IVec S32 32 := pyDiv bcast_S_S32 (subi (csum a) (broadcastInDim S32 ![] bcast_S_S32 (constantI S_ 32 1#32))) (constantI S_ 32 256#32)
/-- How many tiles each group touches. -/
def hTe : IVec S32 32 :=
  select (cmpi .sgt a (broadcastInDim S32 ![] bcast_S_S32 (constantI S_ 32 0#32)))
    (addi (subi (hLt a) (hFt a)) (broadcastInDim S32 ![] bcast_S_S32 (constantI S_ 32 1#32)))
    (broadcastInDim S32 ![] bcast_S_S32 (constantI S_ 32 0#32))
/-- The number of items. -/
def hTotal : IVec S_ 32 := shapeCast S_ (extractStridedSlice S1 ![31] (csum (hTe a)) slices_S32_S1_31) shapeCasts_S1_S_
/-- The item of each grid point. -/
def hItem : IVec S127 32 :=
  minsi (iotaInDim S127 32 0) (broadcastInDim S127 ![] bcast_S_S127 (subi (hTotal a) (constantI S_ 32 1#32)))
/-- The group of each grid point. -/
def hEx : IVec S127 32 :=
  Host.reduce IntOp.addi (extui 32 (cmpi .sle (broadcastInDim S32x127 ![0, 1] bcast_S32x1_S32x127_0_1 (broadcastInDim S32x1 ![0] bcast_S32_S32x1_0 (csum (hTe a))))
    (broadcastInDim S32x127 ![0, 1] bcast_S1x127_S32x127_0_1 (broadcastInDim S1x127 ![1] bcast_S127_S1x127_1 (hItem a)))) natLt_1_32)
    (constantI S_ 32 0#32) reducesTo_S32x127_S127_d0 h_S_
/-- The group numbers as a column of start indices. -/
def hIdx : IVec S127x1 32 :=
  broadcastInDim S127x1 ![0] bcast_S127_S127x1_0 (select (cmpi .slt (hEx a) (broadcastInDim S127 ![] bcast_S_S127 (constantI S_ 32 0#32)))
    (addi (hEx a) (broadcastInDim S127 ![] bcast_S_S127 (constantI S_ 32 32#32))) (hEx a))
/-- A group table read at each grid point's group. -/
def hTake (x : IVec S32 32) : IVec S127 32 := Host.gather gather_S32_S127x1_S127_n_0_n_n_0_1_1 x (hIdx a)
/-- The tile of each grid point. -/
def hTile : IVec S127 32 := subi (addi (hTake a (hFt a)) (hItem a)) (subi (hTake a (csum (hTe a))) (hTake a (hTe a)))
/-- Whether each grid point has an item of its own. -/
def hLive : IVec S127 32 := extui 32 (cmpi .slt (iotaInDim S127 32 0) (broadcastInDim S127 ![] bcast_S_S127 (hTotal a))) natLt_1_32
/-- Whether each grid point's tile differs from the one before. -/
def hFirst : IVec S127 32 :=
  concatenate S127 0 [⟨S1, broadcastInDim S1 ![] bcast_S_S1 (constantI S_ 32 1#32)⟩,
    ⟨S126, extui 32 (cmpi .ne (extractStridedSlice S126 ![1] (hTile a) slices_S127_S126_1) (extractStridedSlice S126 ![0] (hTile a) slices_S127_S126_0)) natLt_1_32⟩]
    concatenates_S1_S126_S127_d0

end Lines

/-! ## What the call finds in the tables -/

variable (m : (ℓ : Loc nD τ sig) → Buf (Elt F) ℓ)

/-- The sizes, on core `c`. -/
def szs (c : Dev nD) : IVec S32 32 := m ((c : Thread nD τ).loc main_arg4)

set_option maxHeartbeats 2000000 in
theorem V_ex (c : Dev nD) : Vm m c main_v19 = hEx (szs m c) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_lo (c : Dev nD) : Vm m c main_v60 = hTake (szs m c) (hStart (szs m c)) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_hi (c : Dev nD) : Vm m c main_v67 = hTake (szs m c) (csum (szs m c)) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_live (c : Dev nD) : Vm m c main_v47 = hLive (szs m c) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
set_option maxHeartbeats 2000000 in
theorem V_tile (c : Dev nD) : Vm m c main_v43 = hTile (szs m c) := by
  unfold Vm entryV; after_reads_simp
  simp -implicitDefEqProofs only [StableHlo.TRef.toBuf, StableHlo.TRef.ofBuf, cast_cast, cast_eq, id]
  simp only [hFirst, hLive, hTile, hTake, hIdx, hEx, hTotal, hItem, hTe, hLt, hFt, hStart, csum, pyDiv, szs]
  try rfl
/-- The pair joined by the last host line, as a function of its two parts. -/
def joined (x : IVec S1 32) (y : IVec S126 32) : IVec S127 32 := concatenate S127 0 [⟨S1, x⟩, ⟨S126, y⟩] concatenates_S1_S126_S127_d0

set_option maxHeartbeats 2000000 in
theorem V_first (c : Dev nD) : Vm m c main_v53 = hFirst (szs m c) := by
  unfold Vm entryV; after_reads_simp
  refine congrArg₂ joined (?_ : _ = broadcastInDim S1 ![] bcast_S_S1 (constantI S_ 32 1#32))
    (?_ : _ = extui 32 (cmpi .ne (extractStridedSlice S126 ![1] (hTile (szs m c)) slices_S127_S126_1) (extractStridedSlice S126 ![0] (hTile (szs m c)) slices_S127_S126_0)) natLt_1_32)
  · after_reads_simp
  · after_reads_simp
    simp -implicitDefEqProofs only [StableHlo.TRef.toBuf, StableHlo.TRef.ofBuf, cast_cast, cast_eq, id]
    simp only [hTile, hTake, hIdx, hEx, hTotal, hItem, hTe, hLt, hFt, hStart, csum, pyDiv, szs]
    try rfl

end Cert.KernelIdeal.Run

end
-- ==== Proof.WordsIdeal.lean ====
/- The words the tables hold, where the sizes fill the rows. -/
module

public import proofs.«01_k».proof.Proof.TablesIdeal

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Idealize.ShloMosaic.ValueIdx (ix1 ix2)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Words
variable {a : IVec S32 32} {g : ℕ → ℕ} (h : Fill a g)

/-- The sum of the entries up to each, word by word. -/
theorem csum_ap (x : IVec S32 32) (f : ℕ → ℕ) (hx : ∀ i : Fin 32, x (ix1 i) = BitVec.ofNat 32 (f i.val)) (j : Fin 32) :
    csum x (ix1 j) = BitVec.ofNat 32 (pre f (j.val + 1)) :=
  cumsum1 (N := 32) (Nm1 := 31) rfl x f hx _ (by rw [bc0]; rfl) _ _ j

include h

/-- No end exceeds the number of rows. -/
theorem pre_bd (n : ℕ) (hn : n ≤ 32) : pre g n ≤ 24576 := h.sum ▸ pre_mono g hn

/-- The groups' first rows. -/
theorem hStart_ap (j : Fin 32) : hStart a (ix1 j) = BitVec.ofNat 32 (pre g j.val) := by
  show csum a (ix1 j) - a (ix1 j) = _
  rw [csum_ap a g h.word, h.word, sub_ofNat (by rw [pre_succ]; omega), pre_succ, Nat.add_sub_cancel]

/-- The groups' first tiles. -/
theorem hFt_ap (j : Fin 32) : hFt a (ix1 j) = BitVec.ofNat 32 (ft g j.val) :=
  pyDiv_ap _ _ _ _ (hStart_ap h j) rfl (Nat.lt_of_le_of_lt (pre_bd h j.val (Nat.le_of_lt j.isLt)) (by decide)) (by decide) (by decide)

/-- The nonempty groups' last tiles. -/
theorem hLt_ap (j : Fin 32) (hj : 0 < g j.val) : hLt a (ix1 j) = BitVec.ofNat 32 ((pre g (j.val + 1) - 1) / 256) := by
  refine pyDiv_ap _ _ _ _ ?_ rfl (Nat.lt_of_le_of_lt (Nat.le_trans (Nat.sub_le _ _) (pre_bd h (j.val + 1) j.isLt)) (by decide)) (by decide) (by decide)
  show csum a (ix1 j) - 1#32 = _
  rw [csum_ap a g h.word]
  exact sub_ofNat (by rw [pre_succ]; omega)

/-- The number of tiles a group touches. -/
theorem hTe_ap (j : Fin 32) : hTe a (ix1 j) = BitVec.ofNat 32 (te g j.val) := by
  show Scalar.select (IntOp.cmpi .sgt (a (ix1 j)) 0#32) (hLt a (ix1 j) - hFt a (ix1 j) + 1#32) 0#32 = _
  have e : IntOp.cmpi .sgt (a (ix1 j)) 0#32 = BitVec.ofBool ((BitVec.ofNat 32 0).slt (a (ix1 j))) := rfl
  have hle := h.le j.val
  rw [e, h.word, slt_ofNat32 (by decide) (by omega), WordCmp.select_decide]
  unfold te
  split
  · rename_i hp
    rw [hLt_ap h j hp, hFt_ap h, sub_ofNat (by unfold ft; have := pre_succ g j.val; omega)]
    exact (BitVec.ofNat_add _ _).symm
  · rfl

/-- The tiles touched add up to at most 127. -/
theorem cum_bd (n : ℕ) (hn : n ≤ 32) : pre (te g) n ≤ 127 :=
  Nat.le_trans (pre_mono (te g) hn) (total_le h.sum)

/-- The number of live items. -/
theorem hTotal_ap : hTotal a ValueIdx.ix0 = BitVec.ofNat 32 (total g) := by
  unfold hTotal
  refine (shapeCast_apply _ _ _ (ix1 (0 : Fin 1)) ?_).trans ?_
  · have e1 : ∀ x : Fin S1.numel, x.val = 0 := by decide
    have e2 : ∀ x : Fin S_.numel, x.val = 0 := by decide
    exact (e1 _).trans (e2 _).symm
  · exact (slice1 (m := 32) (n := 1) 31 _ _ 0 (by decide)).trans (csum_ap (hTe a) (te g) (hTe_ap h) 31)

/-- The item of a step. -/
theorem hItem_ap (i : Fin 127) : hItem a (ix1 i) = BitVec.ofNat 32 (item g i.val) := by
  have e : hItem a (ix1 i) = IntOp.minsi (BitVec.ofNat 32 i.val) (hTotal a ValueIdx.ix0 - 1#32) :=
    congrArg (IntOp.minsi (BitVec.ofNat 32 i.val)) (bc0 (s := S127) bcast_S_S127 (subi (hTotal a) (constantI S_ 32 1#32)) (ix1 i))
  rw [e, hTotal_ap h]
  have h1 := total_pos h.sum
  have h2 := total_le h.sum
  have := i.isLt
  rw [show (1#32 : BitVec 32) = BitVec.ofNat 32 1 from rfl, sub_ofNat (by omega), minsi_ofNat (by omega) (by omega)]
  rfl

/-- A grid point's item. -/
theorem it_lt (i : ℕ) : item g i < total g := item_lt (total_pos h.sum) i

/-- The item's expert. -/
theorem hEx_ap (i : Fin 127) : hEx a (ix1 i) = BitVec.ofNat 32 (ex g (item g i.val)) :=
  count_ap (n := 127) (csum (hTe a)) (hItem a) (fun e => pre (te g) (e + 1)) (csum_ap (hTe a) (te g) (hTe_ap h))
    (fun i => Nat.lt_of_le_of_lt (cum_bd h (i.val + 1) i.isLt) (by decide)) i (hItem_ap h i)
    (Nat.lt_trans (it_lt h i.val) (Nat.lt_of_le_of_lt (total_le h.sum) (by decide))) _ _ _ _ _ _ _

/-- The gathers' indices are the items' experts. -/
theorem hIdx_ap (i : Fin 127) : hIdx a (ix2 i (0 : Fin 1)) = BitVec.ofNat 32 (ex g (item g i.val)) := by
  refine (bcCol (n := 127) _ _ i).trans ?_
  show Scalar.select (IntOp.cmpi .slt (hEx a (ix1 i)) 0#32) _ (hEx a (ix1 i)) = _
  have := (ex_spec (it_lt h i.val)).1
  rw [wrap_of_lt, hEx_ap h]
  rw [hEx_ap h, BitVec.toNat_ofNat, Nat.mod_eq_of_lt (by omega)]; omega

/-- A group table, read at each grid point's group. -/
theorem hTake_ap (x : IVec S32 32) (f : ℕ → ℕ) (hx : ∀ i : Fin 32, x (ix1 i) = BitVec.ofNat 32 (f i.val)) (i : Fin 127) :
    hTake a x (ix1 i) = BitVec.ofNat 32 (f (ex g (item g i.val))) := by
  have h1 := (ex_spec (it_lt h i.val)).1
  exact (take_ap gather_S32_S127x1_S127_n_0_n_n_0_1_1 rfl rfl rfl rfl x (hIdx a) i h1 (by omega) (hIdx_ap h i)).trans (hx ⟨_, h1⟩)

/-- The item's tile. -/
theorem hTile_ap (i : Fin 127) : hTile a (ix1 i) = BitVec.ofNat 32 (tile g (item g i.val)) := by
  show hTake a (hFt a) (ix1 i) + hItem a (ix1 i) - (hTake a (csum (hTe a)) (ix1 i) - hTake a (hTe a) (ix1 i)) = _
  rw [hTake_ap h _ (ft g) (hFt_ap h), hTake_ap h _ (fun e => pre (te g) (e + 1)) (csum_ap (hTe a) (te g) (hTe_ap h)), hTake_ap h _ (te g) (hTe_ap h), hItem_ap h]
  obtain ⟨h1, h2, h3⟩ := ex_spec (it_lt h i.val)
  rw [← BitVec.ofNat_add, sub_ofNat (by rw [pre_succ]; omega), pre_succ, Nat.add_sub_cancel, sub_ofNat (by omega)]
  unfold tile
  rw [Nat.add_sub_assoc h2]

/-- Whether a step is live. -/
theorem hLive_ap (i : Fin 127) : hLive a (ix1 i) = BitVec.ofNat 32 (if i.val < total g then 1 else 0) := by
  have e : hLive a (ix1 i) = (BitVec.ofBool ((BitVec.ofNat 32 i.val).slt (hTotal a ValueIdx.ix0))).setWidth 32 :=
    congrArg (fun w => (BitVec.ofBool ((BitVec.ofNat 32 i.val).slt w)).setWidth 32) (bc0 (s := S127) bcast_S_S127 (hTotal a) (ix1 i))
  have h2 := total_le h.sum
  have := i.isLt
  rw [e, hTotal_ap h, slt_ofNat32 (by omega) (by omega), setWidth_ofBool]

/-- The first step is a first visit. -/
theorem hFirst_zero : hFirst a (ix1 (0 : Fin 127)) = 1#32 := by
  unfold hFirst
  exact concatenate_pair_apply_left (t := S127) (s₁ := S1) (s₂ := S126) 0 _ _ _ _ rfl (ix1 (0 : Fin 1)) (fun b => by obtain rfl : b = 0 := Subsingleton.elim _ _; rfl)

/-- A later step is a first visit where the tile changes. -/
theorem hFirst_succ (i : ℕ) (hi : i + 1 < 127) :
    hFirst a (ix1 (⟨i + 1, hi⟩ : Fin 127)) = BitVec.ofNat 32 (if tile g (item g (i + 1)) ≠ tile g (item g i) then 1 else 0) := by
  unfold hFirst
  refine (concatenate_pair_apply_right (t := S127) (s₁ := S1) (s₂ := S126) 0 _ _ _ _ rfl rfl (ix1 (⟨i, by omega⟩ : Fin 126)) (fun b hb => absurd (Subsingleton.elim _ _) hb) rfl).trans ?_
  show (IntOp.cmpi .ne (extractStridedSlice S126 ![1] (hTile a) slices_S127_S126_1 (ix1 (⟨i, by omega⟩ : Fin 126)))
    (extractStridedSlice S126 ![0] (hTile a) slices_S127_S126_0 (ix1 (⟨i, by omega⟩ : Fin 126)))).setWidth 32 = _
  have e1 := slice1 (m := 127) (n := 126) 1 (hTile a) slices_S127_S126_1 ⟨i, by omega⟩ (show 1 + i < 127 by omega)
  have e2 := slice1 (m := 127) (n := 126) 0 (hTile a) slices_S127_S126_0 ⟨i, by omega⟩ (show 0 + i < 127 by omega)
  have f1 : hTile a (ix1 (⟨1 + i, by omega⟩ : Fin 127)) = BitVec.ofNat 32 (tile g (item g (i + 1))) := by rw [hTile_ap h]; simp only [Nat.add_comm]
  have f2 : hTile a (ix1 (⟨0 + i, by omega⟩ : Fin 127)) = BitVec.ofNat 32 (tile g (item g i)) := by rw [hTile_ap h]; simp only [Nat.zero_add]
  rw [e1.trans f1, e2.trans f2]
  have t1 := tile_lt h.sum (it_lt h (i + 1))
  have t2 := tile_lt h.sum (it_lt h i)
  by_cases ht : tile g (item g (i + 1)) = tile g (item g i)
  · rw [ht, if_neg (by simp)]; simp [IntOp.cmpi]
  · rw [if_pos ht]
    have hne : BitVec.ofNat 32 (tile g (item g (i + 1))) ≠ BitVec.ofNat 32 (tile g (item g i)) := fun e => ht (ofNat_inj (by omega) (by omega) e)
    have hb : (BitVec.ofNat 32 (tile g (item g (i + 1))) != BitVec.ofNat 32 (tile g (item g i))) = true := bne_iff_ne.2 hne
    show (BitVec.ofBool (BitVec.ofNat 32 (tile g (item g (i + 1))) != BitVec.ofNat 32 (tile g (item g i)))).setWidth 32 = _
    rw [hb]; rfl

end Words

end Cert.KernelIdeal.Run

end
-- ==== Proof.SchedIdeal.lean ====
/- The two conditions on the tables, from the precondition: every block named lies inside its array, and the flags follow the tiles. -/
module

public import proofs.«01_k».proof.Proof.WordsIdeal
public import Idealize.ShloMosaic.Lib.Pipeline.Kit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Idealize.ShloMosaic.ValueIdx (ix1 ix2)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The one device's group sizes fill the rows. -/
abbrev Good (g : ℕ → ℕ) : Prop := Fill (szs m 0) g

/-- The table index of a grid point. -/
theorem at127_eq (i : grid0.Coords) : at127 i = ix1 (⟨(i 0).val, (i 0).isLt⟩ : Fin 127) := by
  funext b
  obtain rfl : b = 0 := Subsingleton.elim _ _
  rfl

/-- The table index of a step. -/
theorem at127_coords (t : Fin grid0.N) : at127 (grid0.coords t) = ix1 (⟨t.val, t.isLt⟩ : Fin 127) := by
  funext b
  obtain rfl : b = 0 := Subsingleton.elim _ _
  refine Fin.ext ?_
  show ((grid0.coords t) 0).val = t.val
  have e := Pipeline.Grid.coords_val t (0 : Fin 1) (S := 1) (B := 127) (by decide) (by decide)
  have ht : t.val < 127 := t.isLt
  exact e.trans (by omega)

variable {m} {g : ℕ → ℕ} (h : Good m g)
include h

/-- The word for the tile. -/
theorem wTile_eq (t : Fin grid0.N) : wTile (Vm m) t = BitVec.ofNat 32 (tile g (item g t.val)) := by
  show (Vm m 0 main_v43 : S127.Idx → BitVec 32) _ = _
  rw [at127_coords, V_tile]; exact hTile_ap h _
/-- The group word of a grid point. -/
theorem wEx_eq (t : Fin grid0.N) : (tbl (Vm m) 1 : S127.Idx → BitVec 32) (at127 (grid0.coords t)) = BitVec.ofNat 32 (ex g (item g t.val)) := by
  show (Vm m 0 main_v19 : S127.Idx → BitVec 32) _ = _
  rw [at127_coords, V_ex]; exact hEx_ap h _
/-- The word for the group's first row. -/
theorem wLo_eq (t : Fin grid0.N) : wLo (Vm m) t = BitVec.ofNat 32 (pre g (ex g (item g t.val))) := by
  show (Vm m 0 main_v60 : S127.Idx → BitVec 32) _ = _
  rw [at127_coords, V_lo]; exact hTake_ap h _ (pre g) (hStart_ap h) _
/-- The word for the group's end. -/
theorem wHi_eq (t : Fin grid0.N) : wHi (Vm m) t = BitVec.ofNat 32 (pre g (ex g (item g t.val) + 1)) := by
  show (Vm m 0 main_v67 : S127.Idx → BitVec 32) _ = _
  rw [at127_coords, V_hi]; exact hTake_ap h _ (fun e => pre g (e + 1)) (csum_ap _ g h.word) _
/-- The word that says whether the item is live. -/
theorem wLive_eq (t : Fin grid0.N) : wLive (Vm m) t = BitVec.ofNat 32 (if t.val < total g then 1 else 0) := by
  show (Vm m 0 main_v47 : S127.Idx → BitVec 32) _ = _
  rw [at127_coords, V_live]; exact hLive_ap h _
/-- The first item is a first visit. -/
theorem wFirst_zero (t : Fin grid0.N) (ht : t.val = 0) : wFirst (Vm m) t = 1#32 := by
  show (Vm m 0 main_v53 : S127.Idx → BitVec 32) _ = _
  rw [at127_coords, V_first]
  have e : (⟨t.val, t.isLt⟩ : Fin 127) = 0 := Fin.ext ht
  rw [e]; exact hFirst_zero h
/-- A later item is a first visit where the tile changes. -/
theorem wFirst_succ (n : ℕ) (hn : n + 1 < grid0.N) :
    wFirst (Vm m) ⟨n + 1, hn⟩ = BitVec.ofNat 32 (if tile g (item g (n + 1)) ≠ tile g (item g n) then 1 else 0) := by
  show (Vm m 0 main_v53 : S127.Idx → BitVec 32) _ = _
  rw [at127_coords, V_first]; exact hFirst_succ h n hn

/-- The flags follow the tiles. -/
theorem sched : Sched (Vm m) where
  live0 t ht := by rw [wLive_eq h, ht, if_pos (total_pos h.sum)]
  first0 t ht := wFirst_zero h t ht
  bit t := by
    obtain ⟨n, hn⟩ := t
    cases n with
    | zero => exact .inr (wFirst_zero h _ rfl)
    | succ n => rw [wFirst_succ h]; split
                · exact .inr rfl
                · exact .inl rfl
  same t ht e := by
    rw [wFirst_succ h] at e
    rw [wTile_eq h, wTile_eq h]
    split at e
    · exact absurd e (by decide)
    · rename_i hh; rw [Decidable.not_not.1 hh]
  dead t ht := by
    rw [wLive_eq h] at ht
    have hl : ¬ t.val < total g := fun hl => ht (by rw [if_pos hl])
    obtain ⟨n, hn⟩ := t
    have hp := total_pos h.sum
    cases n with
    | zero => exact absurd hp hl
    | succ n =>
      rw [wFirst_succ h]
      have e : item g (n + 1) = item g n := by unfold item; simp only at hl; omega
      rw [e, if_neg (by simp)]

/-- The word a window's index map reads. -/
theorem tile_word (i : grid0.Coords) : (tbl (Vm m)).at 0 (Rect.unit (s := S127) (k0_off1 i) S1.size (Facts₀.k0_off1_inb _)) Facts₀.numel1_S1
    = BitVec.ofNat 32 (tile g (item g (i 0).val)) := by
  refine (congrArg (tbl (Vm m) 0) (word_index i _ (off1_val _) _ _)).trans ?_
  refine (congrFun (V_tile m 0) (at127 i)).trans ?_
  rw [at127_eq]; exact hTile_ap h _
/-- The expert's word, as the windows read it. -/
theorem ex_word (i : grid0.Coords) : (tbl (Vm m)).at 1 (Rect.unit (s := S127) (k0_off1 i) S1.size (Facts₀.k0_off1_inb _)) Facts₀.numel1_S1
    = BitVec.ofNat 32 (ex g (item g (i 0).val)) := by
  refine (congrArg (tbl (Vm m) 1) (word_index i _ (off1_val _) _ _)).trans ?_
  refine (congrFun (V_ex m 0) (at127 i)).trans ?_
  rw [at127_eq]; exact hEx_ap h _

/-- The tile's word stands for the tile. -/
theorem tile_toNat (i : grid0.Coords) : (BitVec.ofNat 32 (tile g (item g (i 0).val))).toNat = tile g (item g (i 0).val) := by
  have := tile_lt h.sum (it_lt h (i 0).val)
  rw [BitVec.toNat_ofNat, Nat.mod_eq_of_lt (by omega)]
/-- The expert's word stands for the expert. -/
theorem ex_toNat (i : grid0.Coords) : (BitVec.ofNat 32 (ex g (item g (i 0).val))).toNat = ex g (item g (i 0).val) := by
  have := (ex_spec (it_lt h (i 0).val)).1
  rw [BitVec.toNat_ofNat, Nat.mod_eq_of_lt (by omega)]

/-- The codes' window lies at the item's tile. -/
theorem map_0 (i : grid0.Coords) : cc0_transform_0 Facts₀.k0_off1_inb Facts₀.numel1_S1 (tbl (Vm m)) i = ![tile g (item g (i 0).val), 0] :=
  (congrArg (fun w : BitVec 32 => (![w.toNat, 0] : Fin 2 → ℕ)) (tile_word h i)).trans (by rw [tile_toNat h])
/-- The row scales' window lies at the item's tile. -/
theorem map_1 (i : grid0.Coords) : cc0_transform_1 Facts₀.k0_off1_inb Facts₀.numel1_S1 (tbl (Vm m)) i = ![tile g (item g (i 0).val), 0] :=
  (congrArg (fun w : BitVec 32 => (![w.toNat, 0] : Fin 2 → ℕ)) (tile_word h i)).trans (by rw [tile_toNat h])
/-- The matrix window lies at the item's expert. -/
theorem map_2 (i : grid0.Coords) : cc0_transform_2 Facts₀.k0_off1_inb Facts₀.numel1_S1 (tbl (Vm m)) i = ![ex g (item g (i 0).val), 0, 0] :=
  (congrArg (fun w : BitVec 32 => (![w.toNat, 0, 0] : Fin 3 → ℕ)) (ex_word h i)).trans (by rw [ex_toNat h])
/-- The column scales' window lies at the item's expert. -/
theorem map_3 (i : grid0.Coords) : cc0_transform_3 Facts₀.k0_off1_inb Facts₀.numel1_S1 (tbl (Vm m)) i = ![ex g (item g (i 0).val), 0, 0] :=
  (congrArg (fun w : BitVec 32 => (![w.toNat, 0, 0] : Fin 3 → ℕ)) (ex_word h i)).trans (by rw [ex_toNat h])
/-- The result's window lies at the item's tile. -/
theorem map_4 (i : grid0.Coords) : cc0_transform_4 Facts₀.k0_off1_inb Facts₀.numel1_S1 (tbl (Vm m)) i = ![tile g (item g (i 0).val), 0] :=
  (congrArg (fun w : BitVec 32 => (![w.toNat, 0] : Fin 2 → ℕ)) (tile_word h i)).trans (by rw [tile_toNat h])

/-- Every block named lies inside its array and moves whole words. -/
theorem tables_ok : Ok (Vm m) := by
  have ht : ∀ i : grid0.Coords, tile g (item g (i 0).val) < 96 := fun i => tile_lt h.sum (it_lt h _)
  have he : ∀ i : grid0.Coords, ex g (item g (i 0).val) < 32 := fun i => (ex_spec (it_lt h _)).1
  refine ⟨fun i => ⟨fun b => ?_, .inr (.inl (.inr ⟨by decide, rfl, .inl ⟨?_, ⟨64, rfl⟩⟩⟩))⟩, fun i => ⟨fun b => ?_, .inl rfl⟩,
    fun i => ⟨fun b => ?_, .inr (.inr ⟨by decide, rfl, ?_, rfl⟩)⟩, fun i => ⟨fun b => ?_, .inl rfl⟩,
    fun i => ⟨fun b => ?_, .inr (.inl (.inr ⟨by decide, rfl, .inl ⟨?_, ⟨128, rfl⟩⟩⟩))⟩⟩
  · rw [map_0 h]; have := ht i; match b with
    | ⟨0, _⟩ => show (tile g (item g (i 0).val) + 1) * 256 ≤ 24576; omega
    | ⟨1, _⟩ => show (0 + 1) * 2048 ≤ 2048; omega
  · show 4 ∣ cc0_transform_0 _ _ (tbl (Vm m)) i 0 * 256
    exact Dvd.dvd.mul_left (by decide) _
  · rw [map_1 h]; have := ht i; match b with
    | ⟨0, _⟩ => show (tile g (item g (i 0).val) + 1) * 256 ≤ 24576; omega
    | ⟨1, _⟩ => show (0 + 1) * 1 ≤ 1; omega
  · rw [map_2 h]; have := he i; match b with
    | ⟨0, _⟩ => show (ex g (item g (i 0).val) + 1) * 1 ≤ 32; omega
    | ⟨1, _⟩ => show (0 + 1) * 2048 ≤ 2048; omega
    | ⟨2, _⟩ => show (0 + 1) * 1536 ≤ 1536; omega
  · show cc0_transform_2 _ _ (tbl (Vm m)) i 1 * 2048 = 0
    rw [map_2 h]; rfl
  · rw [map_3 h]; have := he i; match b with
    | ⟨0, _⟩ => show (ex g (item g (i 0).val) + 1) * 1 ≤ 32; omega
    | ⟨1, _⟩ => show (0 + 1) * 1 ≤ 1; omega
    | ⟨2, _⟩ => show (0 + 1) * 1536 ≤ 1536; omega
  · rw [map_4 h]; have := ht i; match b with
    | ⟨0, _⟩ => show (tile g (item g (i 0).val) + 1) * 256 ≤ 24576; omega
    | ⟨1, _⟩ => show (0 + 1) * 1536 ≤ 1536; omega
  · show 2 ∣ cc0_transform_4 _ _ (tbl (Vm m)) i 0 * 256
    exact Dvd.dvd.mul_left (by decide) _

end Cert.KernelIdeal.Run

end
-- ==== Proof.Frames.lean ====
/- The kernel, its idealization and the reference run, leave their arguments unchanged and end with every semaphore at zero. -/
module

public import proofs.«01_k».proof.Defs
public import proofs.«01_k».proof.Proof.Gen.Pre_groups_fill
public import proofs.«01_k».proof.Proof.Gen.ReferenceIdeal.Frame
public import proofs.«01_k».proof.Proof.SchedBits
public import proofs.«01_k».proof.Proof.SchedIdeal

@[expose] public section

noncomputable section

namespace Cert.Proof

open Idealize.ShloMosaic Idealize.SL.Sem

/-- Under the precondition the sizes, as naturals, fill the rows: the kernel. -/
theorem good_bits (m : (ℓ : Loc Cert.Kernel.nD Cert.Kernel.τ Cert.Kernel.sig) → Buf (Elt Bits) ℓ) (h : Pre_Kernel m) :
    Cert.Kernel.Run.Good m (Cert.Moe.sz (Cert.Kernel.Run.szs m 0)) :=
  Cert.Moe.fill_of_pre _ _ _ _ _ (h 0)

/-- Under the precondition the sizes, as naturals, fill the rows: the idealization. -/
theorem good_ideal (m : (ℓ : Loc Cert.KernelIdeal.nD Cert.KernelIdeal.τ Cert.KernelIdeal.sig) → Buf (Elt Ideal) ℓ) (h : Pre_KernelIdeal m) :
    Cert.KernelIdeal.Run.Good m (Cert.Moe.sz (Cert.KernelIdeal.Run.szs m 0)) :=
  Cert.Moe.fill_of_pre _ _ _ _ _ (h 0)

/-- The kernel's run. -/
theorem kernel_frame : quiescent_Kernel := fun m ρ h => by
  have hg := good_bits m h
  exact θ_run_mono (Cert.Kernel.Run.run_value m ρ (Cert.Kernel.Run.tables_ok hg) (Cert.Kernel.Run.sched hg))
    (fun r hr => ⟨fun c => (hr.1 c).2, hr.2⟩)

/-- The idealized kernel's run. -/
theorem ideal_frame : quiescent_KernelIdeal := fun m ρ h => by
  have hg := good_ideal m h
  exact θ_run_mono (Cert.KernelIdeal.Run.run_value m ρ (Cert.KernelIdeal.Run.tables_ok hg) (Cert.KernelIdeal.Run.sched hg))
    (fun r hr => ⟨fun c => (hr.1 c).2, hr.2⟩)

/-- The reference's run. -/
theorem reference_frame : quiescent_ReferenceIdeal := fun m ρ _ => Cert.ReferenceIdeal.Gen.frame m ρ

/-- The reference's run, under the precondition too. -/
theorem reference_frame_pre : quiescent_ReferenceIdeal_pre_groups_fill := fun m ρ _ => Cert.ReferenceIdeal.Gen.frame m ρ

end Cert.Proof

end
-- ==== Proof.EntryIdeal.lean ====
/- What the call finds of the scales, read off the kernel's arguments. -/
module

public import proofs.«01_k».proof.Proof.SchedIdeal

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

set_option maxHeartbeats 2000000 in
/-- The row scales the call finds: the argument as one column. -/
theorem V_xs (c : Dev nD) : Vm m c main_v68 = (broadcastInDim S24576x1 ![0] bcast_S24576_S24576x1_0 (m ((c : Thread nD τ).loc main_arg1) : S24576.Idx → Elt F .f32) : S24576x1.Idx → Elt F .f32) := by
  unfold Vm entryV; after_reads_simp
  try rfl
set_option maxHeartbeats 2000000 in
/-- The column scales the call finds: the argument with an axis of one between its two. -/
theorem V_ws (c : Dev nD) : Vm m c main_v69 = (broadcastInDim S32x1x1536 ![0, 2] bcast_S32x1536_S32x1x1536_0_2 (m ((c : Thread nD τ).loc main_arg3) : S32x1536.Idx → Elt F .f32) : S32x1x1536.Idx → Elt F .f32) := by
  unfold Vm entryV; after_reads_simp
  try rfl

end Cert.KernelIdeal.Run

end
-- ==== Proof.PayIdeal.lean ====
/- What the body stores, read at an index over the extended reals. -/
module

public import proofs.«01_k».proof.Proof.SchedIdeal
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block stored at the first item of a tile: the row's product, times its scale, times the column's. -/
theorem pay1_at (X : Vec Ideal S256x2048 .fp8e4m3) (W : Vec Ideal S1x2048x1536 .fp8e4m3) (XS : Vec Ideal S256x1 .f32) (WS : Vec Ideal S1x1x1536 .f32)
    (q : Fin 256) (f : Fin 1536) :
    k0_pay1 X W XS WS (ix2 q f) = (∑ k : Fin 2048, X (ix2 q k) * W (ix3 (0 : Fin 1) k f)) * XS (ix2 q (0 : Fin 1)) * WS (ix3 (0 : Fin 1) (0 : Fin 1) f) := by
  unfold k0_pay1
  pointwise
  try rfl

/-- The block stored at a later item of a tile: the item's rows take the new value, the others keep the one they have. -/
theorem pay2_at (X : Vec Ideal S256x2048 .fp8e4m3) (W : Vec Ideal S1x2048x1536 .fp8e4m3) (XS : Vec Ideal S256x1 .f32) (WS : Vec Ideal S1x1x1536 .f32)
    (T L H : ℕ) (hT : T < 96) (hL : L ≤ 24576) (hH : H ≤ 24576) (old : Vec Ideal S256x1536 .bf16) (q : Fin 256) (f : Fin 1536) :
    k0_pay2 X W XS WS (BitVec.ofNat 32 T) (BitVec.ofNat 32 L) (BitVec.ofNat 32 H) old (ix2 q f)
      = if L ≤ 256 * T + q.val ∧ 256 * T + q.val < H then k0_pay1 X W XS WS (ix2 q f) else old (ix2 q f) := by
  have hq := q.isLt
  have e : IntOp.addi (Scalar.muli (BitVec.ofNat 32 T) 256#32) (BitVec.ofNat 32 q.val) = BitVec.ofNat 32 (256 * T + q.val) := by
    show BitVec.ofNat 32 T * BitVec.ofNat 32 256 + BitVec.ofNat 32 q.val = _
    rw [← BitVec.ofNat_mul, ← BitVec.ofNat_add, Nat.mul_comm]
  unfold k0_pay2
  pointwise
  rw [e, WordCmp.cmpi_sge_ofNat (by omega) (by omega), WordCmp.cmpi_slt_ofNat (by omega) (by omega)]
  by_cases h1 : L ≤ 256 * T + q.val <;> by_cases h2 : 256 * T + q.val < H <;> simp [h1, h2, Scalar.select, IntOp.andi]

end Cert.KernelIdeal.Run

end
-- ==== Proof.BlocksIdeal.lean ====
/- The blocks the call fetches, read off the kernel's arguments. -/
module

public import proofs.«01_k».proof.Proof.EntryIdeal
public import proofs.«01_k».proof.Proof.PayIdeal

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

variable {m} {g : ℕ → ℕ} (h : Good m g)

/-- The row of `x` that is row `q` of the tile of item `t`. -/
def rowOf (g : ℕ → ℕ) (t : ℕ) (q : Fin 256) : ℕ := 256 * tile g (item g t) + q.val
include h
/-- A row of a tile is one of the rows. -/
theorem rowOf_lt (t : ℕ) (q : Fin 256) : rowOf g t q < 24576 := by
  have := tile_lt h.sum (it_lt h t); have := q.isLt; unfold rowOf; omega
/-- The expert of an item is one of the experts. -/
theorem ex_lt (t : ℕ) : ex g (item g t) < 32 := (ex_spec (it_lt h t)).1

/-- The step is its one grid coordinate. -/
theorem coords0 (t : Fin grid0.N) : ((grid0.coords t) 0).val = t.val := by
  have e := Pipeline.Grid.coords_val t (0 : Fin 1) (S := 1) (B := 127) (by decide) (by decide)
  have ht : t.val < 127 := t.isLt
  exact e.trans (by omega)

/-- The tile of codes that a step reads. -/
theorem index_0 (hO : Ok (Vm m)) (t : Fin (cfgM (Vm m) hO).N) : ((cfgM (Vm m) hO).win 0).index t = ![tile g (item g t.val), 0] := by
  show cc0_transform_0 _ _ (tbl (Vm m)) (grid0.coords t) = _
  refine (map_0 h (grid0.coords t)).trans ?_
  rw [coords0 h]
/-- The tile of row scales that a step reads. -/
theorem index_1 (hO : Ok (Vm m)) (t : Fin (cfgM (Vm m) hO).N) : ((cfgM (Vm m) hO).win 1).index t = ![tile g (item g t.val), 0] := by
  show cc0_transform_1 _ _ (tbl (Vm m)) (grid0.coords t) = _
  refine (map_1 h (grid0.coords t)).trans ?_
  rw [coords0 h]
/-- The expert's matrix that a step reads. -/
theorem index_2 (hO : Ok (Vm m)) (t : Fin (cfgM (Vm m) hO).N) : ((cfgM (Vm m) hO).win 2).index t = ![ex g (item g t.val), 0, 0] := by
  show cc0_transform_2 _ _ (tbl (Vm m)) (grid0.coords t) = _
  refine (map_2 h (grid0.coords t)).trans ?_
  rw [coords0 h]
/-- The expert's scales that a step reads. -/
theorem index_3 (hO : Ok (Vm m)) (t : Fin (cfgM (Vm m) hO).N) : ((cfgM (Vm m) hO).win 3).index t = ![ex g (item g t.val), 0, 0] := by
  show cc0_transform_3 _ _ (tbl (Vm m)) (grid0.coords t) = _
  refine (map_3 h (grid0.coords t)).trans ?_
  rw [coords0 h]
/-- The tile that a step writes. -/
theorem indexOut (hO : Ok (Vm m)) (t : Fin (cfgM (Vm m) hO).N) : ((cfgM (Vm m) hO).win 4).index t = ![tile g (item g t.val), 0] := by
  show cc0_transform_4 _ _ (tbl (Vm m)) (grid0.coords t) = _
  refine (map_4 h (grid0.coords t)).trans ?_
  rw [coords0 h]

/-- Where an entry of the codes' window lies in the codes. -/
theorem emb_0 (hO : Ok (Vm m)) (t : Fin (cfgM (Vm m) hO).N) (q : Fin 256) (k : Fin 2048) :
    (((cfgM (Vm m) hO).win 0).blk t).view.emb (ix2 q k : S256x2048.Idx) = (ix2 ⟨rowOf g t.val q, rowOf_lt h t.val q⟩ k : S24576x2048.Idx) := by
  funext a
  refine Fin.ext ((Window.rect_emb_val ((cfgM (Vm m) hO).win 0) t (ix2 q k) a).trans ?_)
  rw [index_0 h hO t]
  match a with
  | ⟨0, _⟩ => exact congrArg (· + q.val) (Nat.mul_comm _ _)
  | ⟨1, _⟩ => exact (congrArg (· + _) (Nat.zero_mul _)).trans (Nat.zero_add _)

/-- Where an entry of the row scales' window lies in the row scales. -/
theorem emb_1 (hO : Ok (Vm m)) (t : Fin (cfgM (Vm m) hO).N) (q : Fin 256) :
    (((cfgM (Vm m) hO).win 1).blk t).view.emb (ix2 q (0 : Fin 1) : S256x1.Idx) = (ix2 ⟨rowOf g t.val q, rowOf_lt h t.val q⟩ (0 : Fin 1) : S24576x1.Idx) := by
  funext a
  refine Fin.ext ((Window.rect_emb_val ((cfgM (Vm m) hO).win 1) t (ix2 q (0 : Fin 1)) a).trans ?_)
  rw [index_1 h hO t]
  match a with
  | ⟨0, _⟩ => exact congrArg (· + q.val) (Nat.mul_comm _ _)
  | ⟨1, _⟩ => exact (congrArg (· + _) (Nat.zero_mul _)).trans (Nat.zero_add _)

/-- Where an entry of the matrix window lies in the matrices. -/
theorem emb_2 (hO : Ok (Vm m)) (t : Fin (cfgM (Vm m) hO).N) (k : Fin 2048) (f : Fin 1536) :
    (((cfgM (Vm m) hO).win 2).blk t).view.emb (ix3 (0 : Fin 1) k f : S1x2048x1536.Idx) = (ix3 ⟨ex g (item g t.val), ex_lt h t.val⟩ k f : S32x2048x1536.Idx) := by
  funext a
  refine Fin.ext ((Window.rect_emb_val ((cfgM (Vm m) hO).win 2) t (ix3 (0 : Fin 1) k f) a).trans ?_)
  rw [index_2 h hO t]
  match a with
  | ⟨0, _⟩ => exact Nat.mul_one _
  | ⟨1, _⟩ => exact (congrArg (· + _) (Nat.zero_mul _)).trans (Nat.zero_add _)
  | ⟨2, _⟩ => exact (congrArg (· + _) (Nat.zero_mul _)).trans (Nat.zero_add _)

/-- Where an entry of the column scales' window lies in the column scales. -/
theorem emb_3 (hO : Ok (Vm m)) (t : Fin (cfgM (Vm m) hO).N) (f : Fin 1536) :
    (((cfgM (Vm m) hO).win 3).blk t).view.emb (ix3 (0 : Fin 1) (0 : Fin 1) f : S1x1x1536.Idx) = (ix3 ⟨ex g (item g t.val), ex_lt h t.val⟩ (0 : Fin 1) f : S32x1x1536.Idx) := by
  funext a
  refine Fin.ext ((Window.rect_emb_val ((cfgM (Vm m) hO).win 3) t (ix3 (0 : Fin 1) (0 : Fin 1) f) a).trans ?_)
  rw [index_3 h hO t]
  match a with
  | ⟨0, _⟩ => exact Nat.mul_one _
  | ⟨1, _⟩ => exact (congrArg (· + _) (Nat.zero_mul _)).trans (Nat.zero_add _)
  | ⟨2, _⟩ => exact (congrArg (· + _) (Nat.zero_mul _)).trans (Nat.zero_add _)

/-- Where an entry of the result's window lies in the result. -/
theorem emb_4 (hO : Ok (Vm m)) (t : Fin (cfgM (Vm m) hO).N) (q : Fin 256) (f : Fin 1536) :
    (((cfgM (Vm m) hO).win 4).blk t).view.emb (ix2 q f : S256x1536.Idx) = (ix2 ⟨rowOf g t.val q, rowOf_lt h t.val q⟩ f : S24576x1536.Idx) := by
  funext a
  refine Fin.ext ((Window.rect_emb_val ((cfgM (Vm m) hO).win 4) t (ix2 q f) a).trans ?_)
  rw [indexOut h hO t]
  match a with
  | ⟨0, _⟩ => exact congrArg (· + q.val) (Nat.mul_comm _ _)
  | ⟨1, _⟩ => exact (congrArg (· + _) (Nat.zero_mul _)).trans (Nat.zero_add _)

/-- Row `q` of the block of `x`. -/
theorem blk0 (hO : Ok (Vm m)) (t : Fin grid0.N) (q : Fin 256) (k : Fin 2048) :
    (iblk (Vm m) hO 0 0 t : Vec F S256x2048 .fp8e4m3) (ix2 q k) = (m (((0 : Dev nD) : Thread nD τ).loc main_arg0) : S24576x2048.Idx → Elt F .fp8e4m3) (ix2 ⟨rowOf g t.val q, rowOf_lt h t.val q⟩ k) := by
  refine (congrArg (Vm m 0 main_arg0 : S24576x2048.Idx → Elt F .fp8e4m3) (emb_0 h hO t q k)).trans ?_
  rw [V_main_arg0]
/-- Row `q` of the block of row scales. -/
theorem blk1 (hO : Ok (Vm m)) (t : Fin grid0.N) (q : Fin 256) :
    (iblk (Vm m) hO 0 1 t : Vec F S256x1 .f32) (ix2 q (0 : Fin 1)) = (m (((0 : Dev nD) : Thread nD τ).loc main_arg1) : S24576.Idx → Elt F .f32) (ix1 ⟨rowOf g t.val q, rowOf_lt h t.val q⟩) := by
  refine (congrArg (Vm m 0 main_v68 : S24576x1.Idx → Elt F .f32) (emb_1 h hO t q)).trans ?_
  rw [V_xs]
  pointwise
/-- The block of `w`: the matrix of the item's group. -/
theorem blk2 (hO : Ok (Vm m)) (t : Fin grid0.N) (k : Fin 2048) (f : Fin 1536) :
    (iblk (Vm m) hO 0 2 t : Vec F S1x2048x1536 .fp8e4m3) (ix3 (0 : Fin 1) k f) = (m (((0 : Dev nD) : Thread nD τ).loc main_arg2) : S32x2048x1536.Idx → Elt F .fp8e4m3) (ix3 ⟨ex g (item g t.val), ex_lt h t.val⟩ k f) := by
  refine (congrArg (Vm m 0 main_arg2 : S32x2048x1536.Idx → Elt F .fp8e4m3) (emb_2 h hO t k f)).trans ?_
  rw [V_main_arg2]
/-- The block of column scales: those of the item's group. -/
theorem blk3 (hO : Ok (Vm m)) (t : Fin grid0.N) (f : Fin 1536) :
    (iblk (Vm m) hO 0 3 t : Vec F S1x1x1536 .f32) (ix3 (0 : Fin 1) (0 : Fin 1) f) = (m (((0 : Dev nD) : Thread nD τ).loc main_arg3) : S32x1536.Idx → Elt F .f32) (ix2 ⟨ex g (item g t.val), ex_lt h t.val⟩ f) := by
  refine (congrArg (Vm m 0 main_v69 : S32x1x1536.Idx → Elt F .f32) (emb_3 h hO t f)).trans ?_
  rw [V_ws]
  pointwise

end Cert.KernelIdeal.Run

end
-- ==== Proof.Spec.lean ====
/- The result both programs are shown to leave, over the extended reals: the grouped product with its two scales. -/
module

public import proofs.«01_k».proof.Proof.MoeNat
public import Idealize.ShloMosaic.Lib.Pointwise

@[expose] public section

noncomputable section

namespace Cert.Moe

open Idealize.ShloMosaic

/-- Row `r` of `x` times column `f` of group `e`'s matrix, times the row's scale, times the column's scale in that group. -/
def rowVal (x : Vec Ideal ⟨2, ![24576, 2048]⟩ .fp8e4m3) (xs : Vec Ideal ⟨1, ![24576]⟩ .f32) (w : Vec Ideal ⟨3, ![32, 2048, 1536]⟩ .fp8e4m3)
    (ws : Vec Ideal ⟨2, ![32, 1536]⟩ .f32) (r : Fin 24576) (e : Fin 32) (f : Fin 1536) : Elt Ideal .bf16 :=
  (∑ k : Fin 2048, x (ix2 r k) * w (ix3 e k f)) * xs (ix1 r) * ws (ix2 e f)

/-- The whole result: every row taken with the group it belongs to. -/
def whole (g : ℕ → ℕ) (x : Vec Ideal ⟨2, ![24576, 2048]⟩ .fp8e4m3) (xs : Vec Ideal ⟨1, ![24576]⟩ .f32) (w : Vec Ideal ⟨3, ![32, 2048, 1536]⟩ .fp8e4m3)
    (ws : Vec Ideal ⟨2, ![32, 1536]⟩ .f32) : Vec Ideal ⟨2, ![24576, 1536]⟩ .bf16 :=
  fun i => rowVal x xs w ws (i 0) (Fin.ofNat 32 (grp g (i 0).val)) (i 1)

/-- The grouped product at a row of group `e` is the row's product with that expert. -/
theorem whole_at (g : ℕ → ℕ) (x : Vec Ideal ⟨2, ![24576, 2048]⟩ .fp8e4m3) (xs : Vec Ideal ⟨1, ![24576]⟩ .f32) (w : Vec Ideal ⟨3, ![32, 2048, 1536]⟩ .fp8e4m3)
    (ws : Vec Ideal ⟨2, ![32, 1536]⟩ .f32) (r : Fin 24576) (e : Fin 32) (f : Fin 1536) (h : grp g r.val = e.val) :
    whole g x xs w ws (ix2 r f) = rowVal x xs w ws r e f := by
  have he : Fin.ofNat 32 (grp g r.val) = e := Fin.ext (by
    show grp g r.val % 32 = e.val
    rw [h, Nat.mod_eq_of_lt e.isLt])
  show rowVal x xs w ws r (Fin.ofNat 32 (grp g r.val)) f = _
  rw [he]

end Cert.Moe

end
-- ==== Proof.ValueIdeal.lean ====
/- The array the call leaves, over the extended reals: after item `n` every row of the item's tile whose own item has passed holds its
   value; a tile is written back only after its last item. -/
module

public import proofs.«01_k».proof.Proof.BlocksIdeal
public import proofs.«01_k».proof.Proof.Spec

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {m : (ℓ : Loc nD τ sig) → Buf (Elt Ideal) ℓ} {g : ℕ → ℕ} (h : Good m g)
include h

omit h in
/-- The kernel's result as a function of its arguments. -/
abbrev res (m : (ℓ : Loc nD τ sig) → Buf (Elt Ideal) ℓ) (g : ℕ → ℕ) : Vec Ideal S24576x1536 .bf16 :=
  whole g (m (((0 : Dev nD) : Thread nD τ).loc main_arg0)) (m (((0 : Dev nD) : Thread nD τ).loc main_arg1)) (m (((0 : Dev nD) : Thread nD τ).loc main_arg2)) (m (((0 : Dev nD) : Thread nD τ).loc main_arg3))

/-- The new value of a row of an item's tile, where the row is of the item's group. -/
theorem pay1_res (hO : Ok (Vm m)) (t : Fin grid0.N) (q : Fin 256) (f : Fin 1536) (e : grp g (rowOf g t.val q) = ex g (item g t.val)) :
    k0_pay1 (iblk (Vm m) hO 0 0 t) (iblk (Vm m) hO 0 2 t) (iblk (Vm m) hO 0 1 t) (iblk (Vm m) hO 0 3 t) (ix2 q f) = res m g (ix2 ⟨rowOf g t.val q, rowOf_lt h t.val q⟩ f) := by
  refine (pay1_at _ _ _ _ q f).trans ?_
  refine Eq.trans ?_ (whole_at g _ _ _ _ _ ⟨ex g (item g t.val), ex_lt h t.val⟩ f e).symm
  unfold rowVal
  refine congrArg₂ (· * ·) (congrArg₂ (· * ·) (Finset.sum_congr rfl fun k _ => congrArg₂ (· * ·) ?_ ?_) ?_) ?_
  · exact blk0 h hO t q k
  · exact blk2 h hO t k f
  · exact blk1 h hO t q
  · exact blk3 h hO t f

/-- The row's own item is of the tile, and lies before every item of a later one. -/
theorem rowItem_row (n : ℕ) (q : Fin 256) :
    rowItem g (rowOf g n q) < total g ∧ ex g (rowItem g (rowOf g n q)) = grp g (rowOf g n q) ∧ tile g (rowItem g (rowOf g n q)) = tile g (item g n) := by
  obtain ⟨h1, h2, h3⟩ := rowItem_spec h.sum (rowOf_lt h n q)
  refine ⟨h1, h2, h3.trans ?_⟩
  have := q.isLt
  unfold rowOf; omega

/-- A live step has its own number as item. -/
theorem item_of_lt {n : ℕ} (hn : n < total g) : item g n = n := by unfold item; omega

/-- Past the last live item the item stays the same. -/
theorem item_stay {n : ℕ} (hn : ¬ n + 1 < total g) : item g (n + 1) = item g n := by
  unfold item; generalize total g = T at *; omega

/-- What a row of the tile of item `n` holds once its own item has passed. -/
def Holds (hO : Ok (Vm m)) (n : ℕ) (hn : n < grid0.N) : Prop :=
  ∀ (q : Fin 256) (f : Fin 1536), rowItem g (rowOf g n q) ≤ n →
    outAt (Vm m) hO 0 n hn (ix2 q f) = res m g (ix2 ⟨rowOf g n q, rowOf_lt h n q⟩ f)

/-- After the first step. -/
theorem holds_zero (hO : Ok (Vm m)) (hn : 0 < grid0.N) : Holds h hO 0 hn := by
  intro q f hle
  obtain ⟨h1, h2, h3⟩ := rowItem_row h 0 q
  rw [outAt_zero]
  refine pay1_res h hO ⟨0, hn⟩ q f ?_
  show grp g (rowOf g 0 q) = ex g (item g 0)
  rw [item_of_lt h (total_pos h.sum), ← h2, Nat.le_zero.1 hle]

/-- A row whose own item passed before, where the tile stays the same. -/
theorem holds_back (hO : Ok (Vm m)) (n : ℕ) (hn : n < grid0.N) (ih : Holds h hO n hn) (ht : tile g (item g (n + 1)) = tile g (item g n))
    (q : Fin 256) (f : Fin 1536) (hlt : rowItem g (rowOf g (n + 1) q) ≤ n) :
    outAt (Vm m) hO 0 n hn (ix2 q f) = res m g (ix2 ⟨rowOf g (n + 1) q, rowOf_lt h (n + 1) q⟩ f) := by
  have er : rowOf g (n + 1) q = rowOf g n q := by unfold rowOf; rw [ht]
  refine (ih q f (by rw [← er]; exact hlt)).trans ?_
  exact congrArg (fun r : Fin 24576 => res m g (ix2 r f)) (Fin.ext er.symm)

/-- After a step past the last live item: nothing changes. -/
theorem holds_dead (hO : Ok (Vm m)) (n : ℕ) (hn : n + 1 < grid0.N) (ih : Holds h hO n (Nat.lt_of_succ_lt hn)) (hlive : ¬ n + 1 < total g) : Holds h hO (n + 1) hn := by
  intro q f hle
  obtain ⟨h1, h2, h3⟩ := rowItem_row h (n + 1) q
  have hl : wLive (Vm m) ⟨n + 1, hn⟩ ≠ 1#32 := by
    rw [wLive_eq h]; intro e
    rw [if_neg hlive] at e
    revert e; decide
  rw [outAt_succ, outStep_dead _ hO 0 _ _ hl]
  exact holds_back h hO n _ ih (by rw [item_stay h hlive]) q f (Nat.le_of_lt_succ (Nat.lt_of_lt_of_le h1 (Nat.le_of_not_lt hlive)))

/-- After the first visit to a tile. -/
theorem holds_first (hO : Ok (Vm m)) (n : ℕ) (hn : n + 1 < grid0.N) (hlive : n + 1 < total g) (hf : tile g (item g (n + 1)) ≠ tile g (item g n)) : Holds h hO (n + 1) hn := by
  intro q f hle
  obtain ⟨h1, h2, h3⟩ := rowItem_row h (n + 1) q
  have hl : wLive (Vm m) ⟨n + 1, hn⟩ = 1#32 := (wLive_eq h _).trans (by rw [if_pos hlive])
  have hi := item_of_lt h hlive
  have hi' := item_of_lt h (show n < total g by omega)
  have h1' : wFirst (Vm m) ⟨n + 1, hn⟩ = 1#32 := (wFirst_succ h n hn).trans (by rw [if_pos hf])
  rw [outAt_succ, outStep_first _ hO 0 _ _ hl h1']
  refine pay1_res h hO ⟨n + 1, hn⟩ q f ?_
  show grp g (rowOf g (n + 1) q) = ex g (item g (n + 1))
  have : rowItem g (rowOf g (n + 1) q) = n + 1 := by
    refine Nat.le_antisymm hle (Nat.lt_of_not_le fun hlt => ?_)
    have a := tile_mono hlt (show n < total g by omega)
    have b := tile_mono (g := g) (Nat.le_succ n) hlive
    rw [hi, hi'] at hf; rw [h3, hi] at a
    exact hf (Nat.le_antisymm a b)
  rw [hi, ← h2, this]

/-- After a later visit to a tile: only the rows of its own group are written. -/
theorem holds_next (hO : Ok (Vm m)) (n : ℕ) (hn : n + 1 < grid0.N) (ih : Holds h hO n (Nat.lt_of_succ_lt hn)) (hlive : n + 1 < total g)
    (ht : tile g (item g (n + 1)) = tile g (item g n)) : Holds h hO (n + 1) hn := by
  intro q f hle
  obtain ⟨h1, h2, h3⟩ := rowItem_row h (n + 1) q
  have hl : wLive (Vm m) ⟨n + 1, hn⟩ = 1#32 := (wLive_eq h _).trans (by rw [if_pos hlive])
  have hi := item_of_lt h hlive
  have h0 : wFirst (Vm m) ⟨n + 1, hn⟩ = 0#32 := (wFirst_succ h n hn).trans (by rw [if_neg (not_not.2 ht)])
  rw [outAt_succ, outStep_next _ hO 0 _ _ hl h0, wTile_eq h, wLo_eq h, wHi_eq h]
  have he := ex_lt h (n + 1)
  have hb1 := pre_mono g (show ex g (item g (n + 1)) ≤ 32 by omega)
  have hb2 := pre_mono g (show ex g (item g (n + 1)) + 1 ≤ 32 by omega)
  rw [h.sum] at hb1 hb2
  refine (pay2_at _ _ _ _ _ _ _ (tile_lt h.sum (it_lt h (n + 1))) hb1 hb2 _ q f).trans ?_
  by_cases hr : pre g (ex g (item g (n + 1))) ≤ rowOf g (n + 1) q ∧ rowOf g (n + 1) q < pre g (ex g (item g (n + 1)) + 1)
  · refine (if_pos hr).trans ?_
    exact pay1_res h hO ⟨n + 1, hn⟩ q f (grp_eq h.sum (rowOf_lt h (n + 1) q) hr.1 hr.2)
  · refine (if_neg hr).trans (holds_back h hO n _ ih ht q f (Nat.lt_succ_iff.1 (Nat.lt_of_le_of_ne hle fun e => hr ?_)))
    have := (grp_spec h.sum (rowOf_lt h (n + 1) q)).2
    rw [← h2, e] at this
    rw [hi]; exact this

/-- After item `n` every row of its tile whose own item has passed holds its value. -/
theorem holds (hO : Ok (Vm m)) (n : ℕ) (hn : n < grid0.N) : Holds h hO n hn := by
  induction n with
  | zero => exact holds_zero h hO hn
  | succ n ih =>
    by_cases hlive : n + 1 < total g
    · by_cases ht : tile g (item g (n + 1)) = tile g (item g n)
      · exact holds_next h hO n hn (ih _) hlive ht
      · exact holds_first h hO n hn hlive ht
    · exact holds_dead h hO n hn (ih _) hlive

end Cert.KernelIdeal.Run

end
-- ==== Proof.FinalIdeal.lean ====
/- The array the call leaves is the grouped product: at a write-back every row of the tile holds its value, and every tile is written back. -/
module

public import proofs.«01_k».proof.Proof.ValueIdeal

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.ShloMosaic.Routing (pyDiv shape0 shape1 shape2 pyDiv_ap cumsum1 bc0 bcCol take_ap wrap_of_lt slt_ofNat32 setWidth_ofBool slice1)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {m : (ℓ : Loc nD τ sig) → Buf (Elt Ideal) ℓ} {g : ℕ → ℕ} (h : Good m g)
include h

/-- Where the block is written back, the point is the last one or the next item has another tile. -/
theorem flush_tile (hO : Ok (Vm m)) (t : Fin (cfgM (Vm m) hO).N) (hf : ((cfgM (Vm m) hO).win 4).flush t = true) :
    t.val + 1 = 127 ∨ tile g (item g (t.val + 1)) ≠ tile g (item g t.val) := by
  by_cases hn : t.val + 1 < grid0.N
  · refine Or.inr fun e => ?_
    have := flush_false (Vm m) hO t hn (by rw [wTile_eq h, wTile_eq h]; exact congrArg _ e)
    rw [this] at hf; exact absurd hf (by decide)
  · have ht : t.val < 127 := t.isLt
    have hn' : ¬ t.val + 1 < 127 := hn
    exact Or.inl (by omega)

/-- Where the point is the last one or the next item has another tile, the block is written back. -/
theorem flush_of_tile (hO : Ok (Vm m)) (t : Fin (cfgM (Vm m) hO).N)
    (hf : t.val + 1 = 127 ∨ ∃ h' : t.val + 1 < 127, tile g (item g (t.val + 1)) ≠ tile g (item g t.val)) :
    ((cfgM (Vm m) hO).win 4).flush t = true := by
  unfold Pipeline.Window.flush
  rcases hf with hf | ⟨hn', hf⟩
  · have e : t.val + 1 = (cfgM (Vm m) hO).grid.N := hf
    rw [decide_eq_true e]; rfl
  · have hn : t.val + 1 < (cfgM (Vm m) hO).N := hn'
    have e : ∃ h' : t.val + 1 < (cfgM (Vm m) hO).grid.N, ((cfgM (Vm m) hO).win 4).index ⟨t.val + 1, h'⟩ ≠ ((cfgM (Vm m) hO).win 4).index t := by
      refine ⟨hn, fun e => hf ?_⟩
      have e' := ((indexOut h hO ⟨t.val + 1, hn⟩).symm.trans e).trans (indexOut h hO t)
      exact congrFun e' 0
    rw [decide_eq_true e, Bool.or_true]; rfl

/-- At a write-back every row's own item has passed. -/
theorem passed (n : ℕ) (hf : n + 1 = 127 ∨ tile g (item g (n + 1)) ≠ tile g (item g n)) (q : Fin 256) : rowItem g (rowOf g n q) ≤ n := by
  obtain ⟨h1, h2, h3⟩ := rowItem_row h n q
  have ht := total_le h.sum
  rcases hf with hf | hf
  · omega
  · by_contra hlt
    have hl : n + 1 < total g ∨ n + 1 = rowItem g (rowOf g n q) := by omega
    have hlive : n + 1 < total g := by omega
    have a := tile_mono (Nat.lt_of_not_le hlt : n + 1 ≤ _) h1
    have b := tile_mono (g := g) (Nat.le_succ n) hlive
    have hi := item_of_lt h hlive
    have hi' := item_of_lt h (show n < total g by omega)
    rw [hi, hi'] at hf; rw [h3, hi'] at a
    exact hf (Nat.le_antisymm a b)

/-- Every tile has an item, and a last point whose item is of it. -/
theorem last_item {b : ℕ} (hb : b < 96) : ∃ t, t < 127 ∧ tile g (item g t) = b
    ∧ (t + 1 = 127 ∨ ∃ h' : t + 1 < 127, tile g (item g (t + 1)) ≠ tile g (item g t)) := by
  obtain ⟨h1, h2, h3⟩ := rowItem_spec h.sum (show 256 * b < 24576 by omega)
  have ht := total_le h.sum
  have hw : tile g (item g (rowItem g (256 * b))) = b := by
    rw [item_of_lt h h1, h3]; omega
  have hle : rowItem g (256 * b) ≤ 126 := by omega
  have hs := Nat.findGreatest_spec (P := fun t => tile g (item g t) = b) hle hw
  have hub := Nat.findGreatest_le (P := fun t => tile g (item g t) = b) 126
  have hgr := fun k hk hk' => Nat.findGreatest_is_greatest (P := fun t => tile g (item g t) = b) (n := 126) (k := k) hk hk'
  generalize Nat.findGreatest (fun t => tile g (item g t) = b) 126 = t at hs hub hgr
  refine ⟨t, by omega, hs, ?_⟩
  by_cases hl : t + 1 = 127
  · exact Or.inl hl
  · refine Or.inr ⟨by omega, fun e => hgr (t + 1) (Nat.lt_succ_self t) (by omega) (e.trans hs)⟩

omit h in
/-- An index of a matrix is the pair of its coordinates. -/
theorem pair_eq {a b : ℕ} (y : (⟨2, ![a, b]⟩ : Shape).Idx) : ∃ (q : Fin a) (f : Fin b), y = ix2 q f :=
  ⟨y 0, y 1, by funext k; match k with | ⟨0, _⟩ => rfl | ⟨1, _⟩ => rfl⟩

/-- What is written back at a point, read at an index of the block. -/
theorem flushed_at (hO : Ok (Vm m)) (t : Fin (cfgM (Vm m) hO).N) (hf : ((cfgM (Vm m) hO).win 4).flush t = true) (q : Fin 256) (f : Fin 1536) :
    (dats (Vm m) hO 0 0).flushed 4 t (ix2 q f : S256x1536.Idx) = (((cfgM (Vm m) hO).win 4).blk t).view.read (Elt Ideal) (res m g) (ix2 q f : S256x1536.Idx) := by
  have e1 : (dats (Vm m) hO 0 0).after 4 t (ix2 q f : S256x1536.Idx) = outAt (Vm m) hO 0 t.val t.isLt (ix2 q f) := congrFun (after_4 (Vm m) hO 0 t) _
  refine (e1.trans ((holds h hO t.val t.isLt q f (passed h t.val (flush_tile h hO t hf) q)).trans ?_) : _)
  exact (congrArg (res m g) (emb_4 h hO t q f)).symm

/-- Every index of the array lies in a block that is written back. -/
theorem cover (hO : Ok (Vm m)) (r : Fin 24576) (f : Fin 1536) :
    ∃ t : Fin (cfgM (Vm m) hO).N, ((cfgM (Vm m) hO).win 4).flush t = true ∧ (ix2 r f : S24576x1536.Idx) ∈ (((cfgM (Vm m) hO).win 4).blk t).view.set := by
  obtain ⟨t, ht', hb, hl⟩ := last_item h (b := r.val / 256) (by have := r.isLt; omega)
  have ht : t < (cfgM (Vm m) hO).N := ht'
  refine ⟨⟨t, ht⟩, flush_of_tile h hO ⟨t, ht⟩ hl, ?_⟩
  have e : (((cfgM (Vm m) hO).win 4).blk ⟨t, ht⟩).view.emb (ix2 (⟨r.val % 256, Nat.mod_lt _ (by decide)⟩ : Fin 256) f : S256x1536.Idx) = (ix2 r f : S24576x1536.Idx) := by
    refine (emb_4 h hO ⟨t, ht⟩ _ _).trans ?_
    refine congrArg (fun r : Fin 24576 => (ix2 r f : S24576x1536.Idx)) (Fin.ext ?_)
    show 256 * tile g (item g t) + r.val % 256 = r.val
    rw [hb]; omega
  rw [← e]
  exact View.emb_mem_set _ _

/-- The call leaves the grouped product. -/
theorem outArr_eq (hO : Ok (Vm m)) : outArr m hO 0 = res m g := by
  refine (dats (Vm m) hO 0 0).arrAt_eq_of_cover 4 (res m g) (fun t hf => funext fun y => ?_) fun i => ?_
  · obtain ⟨q, f, e⟩ := pair_eq (a := 256) (b := 1536) y
    have := flushed_at h hO t hf q f
    rw [← e] at this; exact this
  · obtain ⟨r, f, e⟩ := pair_eq (a := 24576) (b := 1536) i
    have := cover h hO r f
    rw [← e] at this; exact this

end Cert.KernelIdeal.Run

end
-- ==== Proof.RefLines.lean ====
/- The reference's host lines as functions of the buffers they start from. -/
module

public import proofs.«01_k».proof.Proof.Gen.ReferenceIdeal.Frame
public import proofs.«01_k».proof.Proof.MoeWords
public import Idealize.ShloMosaic.Lib.Claim
public import Idealize.ShloMosaic.Lib.StableHlo.RunRead

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.ShloMosaic.Routing (shape0 shape1 shape2 shape3 cumsum1 bc0 bcCol bcRows bcCols take_ap wrap_of_lt slt_ofNat32 clip_word)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The end row of each group. -/
def ends (a : IVec S32 32) : IVec S32 32 :=
  Host.reduceWindow IntOp.addi ![32] ![1] ![31] ![0] a (broadcastInDim S_ ![] bcast_S_S_ (constantI S_ 32 0#32)) reduceWindows_S32_S32_w32s1p31_0 h_S_
/-- The row numbers. -/
def rows : IVec S24576 32 := iotaInDim S24576 32 0
/-- Whether each row lies in each group. -/
def inGroup (a : IVec S32 32) : IVec S24576x32 1 :=
  andi
    (cmpi .sge (broadcastInDim S24576x32 ![0, 1] bcast_S24576x1_S24576x32_0_1 (broadcastInDim S24576x1 ![0] bcast_S24576_S24576x1_0 rows))
      (broadcastInDim S24576x32 ![0, 1] bcast_S1x32_S24576x32_0_1 (broadcastInDim S1x32 ![1] bcast_S32_S1x32_1 (subi (ends a) a))))
    (cmpi .slt (broadcastInDim S24576x32 ![0, 1] bcast_S24576x1_S24576x32_0_1 (broadcastInDim S24576x1 ![0] bcast_S24576_S24576x1_0 rows))
      (broadcastInDim S24576x32 ![0, 1] bcast_S1x32_S24576x32_0_1 (broadcastInDim S1x32 ![1] bcast_S32_S1x32_1 (ends a))))
/-- The products of the rows with every group's matrix, those of other groups set to zero. -/
def masked (X : Vec F S24576x2048 .f32) (W : Vec F S32x2048x1536 .f32) (a : IVec S32 32) : Vec F S24576x32x1536 .f32 :=
  select (broadcastInDim S24576x32x1536 ![0, 1, 2] bcast_S24576x32x1_S24576x32x1536_0_1_2 (broadcastInDim S24576x32x1 ![0, 1] bcast_S24576x32_S24576x32x1_0_1 (inGroup a)))
    (Host.dotGeneral dot_S24576x2048_S32x2048x1536_S24576x32x1536_1_1_0_02_n_n none X W)
    (broadcastInDim S24576x32x1536 ![] bcast_S_S24576x32x1536 (constant S_ .f32 0x00000000#32))
/-- Their sum over the groups. -/
def acc (X : Vec F S24576x2048 .f32) (W : Vec F S32x2048x1536 .f32) (a : IVec S32 32) : Vec F S24576x1536 .f32 :=
  Host.reduceAdd (masked X W a) (constant S_ .f32 0x00000000#32) reducesTo_S24576x32x1536_S24576x1536_d1 h_S_
/-- How many groups end at or before each row. -/
def found (a : IVec S32 32) : IVec S24576 32 :=
  Host.reduce IntOp.addi (extui 32 (cmpi .sle (broadcastInDim S32x24576 ![0, 1] bcast_S32x1_S32x24576_0_1 (broadcastInDim S32x1 ![0] bcast_S32_S32x1_0 (ends a)))
    (broadcastInDim S32x24576 ![0, 1] bcast_S1x24576_S32x24576_0_1 (broadcastInDim S1x24576 ![1] bcast_S24576_S1x24576_1 rows))) natLt_1_32)
    (constantI S_ 32 0#32) reducesTo_S32x24576_S24576_d0 h_S_
/-- That number kept between 0 and 31. -/
def clipped (a : IVec S32 32) : IVec S24576 32 :=
  minsi (broadcastInDim S24576 ![] bcast_S_S24576 (constantI S_ 32 31#32)) (maxsi (broadcastInDim S24576 ![] bcast_S_S24576 (constantI S_ 32 0#32)) (found a))
/-- The group numbers as a column of start indices. -/
def starts (a : IVec S32 32) : IVec S24576x1 32 :=
  broadcastInDim S24576x1 ![0] bcast_S24576_S24576x1_0 (select (cmpi .slt (clipped a) (broadcastInDim S24576 ![] bcast_S_S24576 (constantI S_ 32 0#32)))
    (addi (clipped a) (broadcastInDim S24576 ![] bcast_S_S24576 (constantI S_ 32 32#32))) (clipped a))
/-- The whole result, before its last reshape. -/
def out (X : Vec F S24576x2048 .f32) (xs : Vec F S24576 .f32) (W : Vec F S32x2048x1536 .f32) (ws : Vec F S32x1536 .f32) (a : IVec S32 32) : Vec F S24576x1536 .bf16 :=
  truncf .bf16 (mulf (mulf (acc X W a) (broadcastInDim S24576x1536 ![0, 1] bcast_S24576x1_S24576x1536_0_1 (broadcastInDim S24576x1 ![0] bcast_S24576_S24576x1_0 xs)))
    (Host.gather gather_S32x1536_S24576x1_S24576x1536_1_0_n_n_0_1_11536 ws (starts a))) bitsLt_bf16_f32

/-- The lines after the widening. -/
abbrev tailLines : List (List (HloOp τ sig (Elt F))) := [hostOps1, hostOps1_1, hostOps1_2, hostOps1_3, hostOps1_4, hostOps1_5, hostOps1_6, hostOps1_7]

set_option maxHeartbeats 4000000 in
/-- What they leave in the result, from whatever the buffers hold before them. -/
theorem tail_out (E : Valuation τ sig (Elt F)) :
    (StableHlo.after (tailLines (F := F)).flatten E (Proc.devRef .tc main_v33) : S12x2048x1536.Idx → Elt F .bf16)
      = shapeCast S12x2048x1536 (out (E (Proc.devRef .tc main_v0_0) : S24576x2048.Idx → Elt F .f32) (E (Proc.devRef .tc main_arg1) : S24576.Idx → Elt F .f32)
          (E (Proc.devRef .tc main_v0_1) : S32x2048x1536.Idx → Elt F .f32) (E (Proc.devRef .tc main_arg3) : S32x1536.Idx → Elt F .f32)
          (E (Proc.devRef .tc main_arg4) : S32.Idx → BitVec 32)) shapeCasts_S24576x1536_S12x2048x1536 := by
  after_reads_simp
  simp -implicitDefEqProofs only [StableHlo.TRef.toBuf, StableHlo.TRef.ofBuf, cast_cast, cast_eq, id]
  simp only [out, starts, clipped, found, acc, masked, inGroup, rows, ends]
  try rfl

end Cert.ReferenceIdeal.Run

end
-- ==== Proof.RefArrays.lean ====
/- What the reference's widening leaves: the two fp8 arrays as they are, over the extended reals. -/
module

public import proofs.«01_k».proof.Proof.RefLines
public import Idealize.ShloMosaic.Lib.Pipeline.ValueKit.Point

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.ShloMosaic.Routing (shape0 shape1 shape2 shape3 cumsum1 bc0 bcCol bcRows bcCols take_ap wrap_of_lt slt_ofNat32 clip_word)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- The widened `x` is `x`. -/
theorem arr_x (c : Dev nD) : ((dats m 0 c).arrAt 2 cfg0.N : S24576x2048.Idx → Elt Ideal .f32) = (m ((c : Thread nD τ).loc main_arg0) : S24576x2048.Idx → Elt Ideal .fp8e4m3) := by
  refine (dats m 0 c).arrAt_eq_of_covers 2 _ (by decide +kernel) fun t hf y => ?_
  blk_simp
  rw [after0_2]; frame_out
  rfl

/-- The widened `w` is `w`. -/
theorem arr_w (c : Dev nD) : ((dats m 0 c).arrAt 3 cfg0.N : S32x2048x1536.Idx → Elt Ideal .f32) = (m ((c : Thread nD τ).loc main_arg2) : S32x2048x1536.Idx → Elt Ideal .fp8e4m3) := by
  refine (dats m 0 c).arrAt_eq_of_covers 3 _ (by decide +kernel) fun t hf y => ?_
  blk_simp
  rw [after0_3]; frame_out
  rfl

end Cert.ReferenceIdeal.Run

end
-- ==== Proof.RefPoint.lean ====
/- The reference's result read at an index, over the extended reals: the grouped product. -/
module

public import proofs.«01_k».proof.Proof.RefLines
public import proofs.«01_k».proof.Proof.Spec
public import Idealize.ShloMosaic.Lib.Pointwise

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.ShloMosaic.Routing (shape0 shape1 shape2 shape3 cumsum1 bc0 bcCol bcRows bcCols take_ap wrap_of_lt slt_ofNat32 clip_word gather_row)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The conjunction of two bits. -/
theorem andi_ofBool (p q : Bool) : IntOp.andi (BitVec.ofBool p) (BitVec.ofBool q) = BitVec.ofBool (p && q) := by
  cases p <;> cases q <;> decide

section Words
variable {a : IVec S32 32} {g : ℕ → ℕ} (h : Fill a g)
include h

/-- The groups' ends. -/
theorem ends_ap (j : Fin 32) : ends a (ix1 j) = BitVec.ofNat 32 (pre g (j.val + 1)) :=
  cumsum1 (N := 32) (Nm1 := 31) rfl a g h.word _ (by rw [bc0]; rfl) _ _ j

omit h in
/-- The row numbers. -/
theorem rows_ap (r : Fin 24576) : rows (ix1 r) = BitVec.ofNat 32 r.val := rfl

/-- No end exceeds the number of rows. -/
theorem pre_bd (n : ℕ) (hn : n ≤ 32) : pre g n ≤ 24576 := h.sum ▸ pre_mono g hn

/-- The groups' first rows. -/
theorem first_ap (j : Fin 32) : subi (ends a) a (ix1 j) = BitVec.ofNat 32 (pre g j.val) := by
  show ends a (ix1 j) - a (ix1 j) = _
  have hw : a (ix1 j) = BitVec.ofNat 32 (g j.val) := h.word j
  rw [ends_ap h, hw, sub_ofNat (by rw [pre_succ]; omega), pre_succ, Nat.add_sub_cancel]

/-- A row lies in exactly its own group. -/
theorem inGroup_ap (r : Fin 24576) (e : Fin 32) : inGroup a (ix2 r e) = BitVec.ofBool (decide (grp g r.val = e.val)) := by
  have hb := pre_bd h e.val (Nat.le_of_lt e.isLt)
  have hb' := pre_bd h (e.val + 1) e.isLt
  have hr := r.isLt
  obtain ⟨g1, g2, g3⟩ := grp_spec h.sum hr
  have e1 : inGroup a (ix2 r e) = IntOp.andi (IntOp.cmpi .sge (rows (ix1 r)) (subi (ends a) a (ix1 e))) (IntOp.cmpi .slt (rows (ix1 r)) (ends a (ix1 e))) := by
    unfold inGroup
    generalize ends a = E
    generalize rows = R
    pointwise
  rw [e1, rows_ap, first_ap h, ends_ap h, WordCmp.cmpi_sge_ofNat (by omega) (by omega), WordCmp.cmpi_slt_ofNat (by omega) (by omega)]
  rw [andi_ofBool, ← Bool.decide_and]
  exact congrArg BitVec.ofBool (decide_eq_decide.2 ⟨fun hh => grp_eq h.sum hr hh.1 hh.2, fun hq => by rw [← hq]; exact ⟨g2, g3⟩⟩)

/-- The search finds the row's group. -/
theorem found_ap (r : Fin 24576) : found a (ix1 r) = BitVec.ofNat 32 (grp g r.val) :=
  count_ap (n := 24576) (ends a) rows (fun e => pre g (e + 1)) (ends_ap h)
    (fun i => Nat.lt_of_le_of_lt (pre_bd h (i.val + 1) i.isLt) (by decide)) r (rows_ap r)
    (Nat.lt_trans r.isLt (by decide)) _ _ _ _ _ _ _

/-- Clipping leaves the group as it is. -/
theorem clipped_ap (r : Fin 24576) : clipped a (ix1 r) = BitVec.ofNat 32 (grp g r.val) := by
  have hg := (grp_spec h.sum r.isLt).1
  show IntOp.minsi (broadcastInDim S24576 ![] bcast_S_S24576 (constantI S_ 32 31#32) (ix1 r)) (IntOp.maxsi (broadcastInDim S24576 ![] bcast_S_S24576 (constantI S_ 32 0#32) (ix1 r)) (found a (ix1 r))) = _
  rw [found_ap h]
  refine (clip_word (x := grp g r.val) (lo := 0) (hi := 31) (by omega) (by decide) (by decide)).trans ?_
  congr 1; omega

/-- The gather's indices are the rows' groups. -/
theorem starts_ap (r : Fin 24576) : starts a (ix2 r (0 : Fin 1)) = BitVec.ofNat 32 (grp g r.val) := by
  refine (bcCol (n := 24576) _ _ r).trans ?_
  show Scalar.select (IntOp.cmpi .slt (clipped a (ix1 r)) 0#32) _ (clipped a (ix1 r)) = _
  have := (grp_spec h.sum r.isLt).1
  rw [wrap_of_lt, clipped_ap h]
  rw [clipped_ap h, BitVec.toNat_ofNat, Nat.mod_eq_of_lt (by omega)]; omega

end Words

/-- A masked product: the product inside the group, zero outside. -/
theorem masked_at (X : Vec Ideal S24576x2048 .f32) (W : Vec Ideal S32x2048x1536 .f32) (a : IVec S32 32) (r : Fin 24576) (e : Fin 32) (f : Fin 1536) :
    masked X W a (ix3 r e f) = Scalar.select (inGroup a (ix2 r e)) (∑ k : Fin 2048, X (ix2 r k) * W (ix3 e k f)) 0 := by
  unfold masked
  pointwise

/-- The accumulator is the sum over the experts of the masked products. -/
theorem acc_at (X : Vec Ideal S24576x2048 .f32) (W : Vec Ideal S32x2048x1536 .f32) (a : IVec S32 32) (r : Fin 24576) (f : Fin 1536) :
    acc X W a (ix2 r f) = ∑ e : Fin 32, masked X W a (ix3 r e f) := by
  unfold acc
  pointwise

/-- An entry of the result: the accumulator times its two scales. -/
theorem out_at (X : Vec Ideal S24576x2048 .f32) (xs : Vec Ideal S24576 .f32) (W : Vec Ideal S32x2048x1536 .f32) (ws : Vec Ideal S32x1536 .f32) (a : IVec S32 32) (r : Fin 24576) (f : Fin 1536) :
    out X xs W ws a (ix2 r f) = acc X W a (ix2 r f) * xs (ix1 r) * Host.gather gather_S32x1536_S24576x1_S24576x1536_1_0_n_n_0_1_11536 ws (starts a) (ix2 r f) := by
  unfold out
  pointwise

section Value
variable {a : IVec S32 32} {g : ℕ → ℕ} (h : Fill a g)
include h

/-- The sum over the groups is the product with the row's own group. -/
theorem acc_own (X : Vec Ideal S24576x2048 .f32) (W : Vec Ideal S32x2048x1536 .f32) (r : Fin 24576) (e : Fin 32) (he : grp g r.val = e.val) (f : Fin 1536) :
    acc X W a (ix2 r f) = ∑ k : Fin 2048, X (ix2 r k) * W (ix3 e k f) := by
  rw [acc_at]
  refine (Finset.sum_eq_single e (fun e' _ hne => ?_) fun hn => absurd (Finset.mem_univ e) hn).trans ?_
  · rw [masked_at, inGroup_ap h, decide_eq_false (fun hq => hne (Fin.ext (hq.symm.trans he)))]
    rfl
  · rw [masked_at, inGroup_ap h, decide_eq_true he]
    rfl

/-- The reference's result is the grouped product. -/
theorem out_eq (X : Vec Ideal S24576x2048 .fp8e4m3) (xs : Vec Ideal S24576 .f32) (W : Vec Ideal S32x2048x1536 .fp8e4m3) (ws : Vec Ideal S32x1536 .f32) :
    out (F := Ideal) (X : S24576x2048.Idx → Elt Ideal .f32) xs (W : S32x2048x1536.Idx → Elt Ideal .f32) ws a = whole g X xs W ws := by
  funext i
  obtain ⟨r, f, rfl⟩ : ∃ (r : Fin 24576) (f : Fin 1536), i = ix2 r f := ⟨i 0, i 1, by funext k; match k with | ⟨0, _⟩ => rfl | ⟨1, _⟩ => rfl⟩
  have hg := (grp_spec h.sum r.isLt).1
  refine (out_at _ _ _ _ _ r f).trans (Eq.trans ?_ (whole_at g X xs W ws r ⟨grp g r.val, hg⟩ f rfl).symm)
  have hrow : Host.gather gather_S32x1536_S24576x1_S24576x1536_1_0_n_n_0_1_11536 ws (starts a) (ix2 r f) = ws (ix2 ⟨grp g r.val, hg⟩ f) :=
    gather_row gather_S32x1536_S24576x1_S24576x1536_1_0_n_n_0_1_11536 rfl rfl rfl rfl rfl ws (starts a) r f ⟨grp g r.val, hg⟩ (starts_ap h r) (by decide)
  rw [acc_own h _ _ r ⟨grp g r.val, hg⟩ rfl, hrow]
  rfl

end Value

end Cert.ReferenceIdeal.Run

end
-- ==== Proof.RefRun.lean ====
/- The reference's run over the extended reals: it ends with the grouped product, its arguments unchanged. -/
module

public import proofs.«01_k».proof.Proof.RefArrays
public import proofs.«01_k».proof.Proof.RefPoint

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.ShloMosaic.Routing (shape0 shape1 shape2 shape3 cumsum1 bc0 bcCol bcRows bcCols take_ap wrap_of_lt slt_ofNat32 clip_word)
open Cert.Moe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The sizes, on core `c`. -/
abbrev sizes (c : Dev nD) : IVec S32 32 := m ((c : Thread nD τ).loc main_arg4)

/-- The grouped product of the reference's arguments. -/
abbrev res (c : Dev nD) (g : ℕ → ℕ) : Vec Ideal S24576x1536 .bf16 :=
  whole g (m ((c : Thread nD τ).loc main_arg0)) (m ((c : Thread nD τ).loc main_arg1)) (m ((c : Thread nD τ).loc main_arg2)) (m ((c : Thread nD τ).loc main_arg3))

/-- What the lines after the widening leave in the result. -/
theorem tail_v33 (c : Dev nD) {g : ℕ → ℕ} (h : Fill (sizes m c) g) :
    (Pipeline.afterTail₀ cfgs (dats m) 0 (V0 m) tailLines c main_v33 : S12x2048x1536.Idx → Elt Ideal .bf16)
      = shapeCast S12x2048x1536 (res m c g) shapeCasts_S24576x1536_S12x2048x1536 := by
  unfold Pipeline.afterTail₀
  have ex := (Pipeline.withArrays_arr spec0 (by decide) c (V0 m c) (fun w => (dats m 0 c).arrAt w cfg0.N) 2).trans (arr_x m c)
  have ew := (Pipeline.withArrays_arr spec0 (by decide) c (V0 m c) (fun w => (dats m 0 c).arrAt w cfg0.N) 3).trans (arr_w m c)
  have e1 := (Pipeline.withArrays_of_ne spec0 c (V0 m c) (fun w => (dats m 0 c).arrAt w cfg0.N) main_arg1 (by exact (by decide : ∀ w, Pipeline.arrRef spec0 w ≠ main_arg1))).trans (V_main_arg1 m c)
  have e3 := (Pipeline.withArrays_of_ne spec0 c (V0 m c) (fun w => (dats m 0 c).arrAt w cfg0.N) main_arg3 (by exact (by decide : ∀ w, Pipeline.arrRef spec0 w ≠ main_arg3))).trans (V_main_arg3 m c)
  have e4 := (Pipeline.withArrays_of_ne spec0 c (V0 m c) (fun w => (dats m 0 c).arrAt w cfg0.N) main_arg4 (by exact (by decide : ∀ w, Pipeline.arrRef spec0 w ≠ main_arg4))).trans (V_main_arg4 m c)
  refine (tail_out _).trans ?_
  refine congrArg (fun y : Vec Ideal S24576x1536 .bf16 => shapeCast S12x2048x1536 y shapeCasts_S24576x1536_S12x2048x1536) ?_
  refine Eq.trans ?_ (out_eq h _ _ _ _)
  refine congr (congr (congr (congr (congrArg (out (F := Ideal)) ?_) ?_) ?_) ?_) ?_
  · exact ex
  · exact e1
  · exact ew
  · exact e3
  · exact e4

/-- The run ends with the grouped product, the arguments unchanged. -/
theorem run_value {g : ℕ → ℕ} (h : ∀ c : Dev nD, Fill (sizes m c) g) : θ_run defs (onTc (τ := τ) (main (F := Ideal))) ⟨m, fun _ => 0, ρ⟩ (fun r => ∀ c : Dev nD,
      r.2.mem ((c : Thread nD τ).loc main_v33) = shapeCast S12x2048x1536 (res m c g) shapeCasts_S24576x1536_S12x2048x1536
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  θ_run_mono (θ_run_and (run_main m ρ) (unchanged m ρ)) fun r hr c =>
    ⟨((hr.1 c).2 main_v33 (Pipeline.mem_restRefs_of main_v33 (by decide) (by decide))).trans (tail_v33 m c (h c)), hr.2 c⟩

end Cert.ReferenceIdeal.Run

end
-- ==== Proof.Algebraic.lean ====
/- The idealized kernel and the reference end with the same result. -/
module

public import proofs.«01_k».proof.Proof.Frames
public import proofs.«01_k».proof.Proof.FinalIdeal
public import proofs.«01_k».proof.Proof.RefRun

@[expose] public section

noncomputable section

namespace Cert.Proof

open Idealize.ShloMosaic Idealize.SL.Sem

/-- From memories agreeing on the arguments, under the precondition, the idealized kernel and the reference end with equal results:
    both are the grouped product of the arguments. -/
theorem algebraic : algebraic_KernelIdeal_ReferenceIdeal := fun m ρ m' ρ' h hm => by
  have hg := good_ideal m h
  obtain ⟨h0, h1, h2, h3, h4⟩ := hm 0
  have hO := Cert.KernelIdeal.Run.tables_ok hg
  refine ⟨fun c => shapeCast Cert.KernelIdeal.S12x2048x1536 (Cert.KernelIdeal.Run.res m (Cert.Moe.sz (Cert.KernelIdeal.Run.szs m 0))) Cert.KernelIdeal.Facts₀.shapeCasts_S24576x1536_S12x2048x1536, ?_, ?_⟩
  · refine θ_run_mono (Cert.KernelIdeal.Run.run_value m ρ hO (Cert.KernelIdeal.Run.sched hg)) (fun r hr c => ?_)
    obtain rfl : c = 0 := Subsingleton.elim _ _
    refine ⟨(hr.1 0).1.trans ?_, (hr.1 0).2⟩
    rw [Cert.KernelIdeal.Run.outArr_eq hg hO]
  · have hf : ∀ c : Dev Cert.ReferenceIdeal.nD, Cert.Moe.Fill (Cert.ReferenceIdeal.Run.sizes m' c) (Cert.Moe.sz (Cert.KernelIdeal.Run.szs m 0)) := fun c => by
      obtain rfl : c = 0 := Subsingleton.elim _ _
      have e4 : Cert.ReferenceIdeal.Run.sizes m' 0 = Cert.KernelIdeal.Run.szs m 0 := h4
      rw [e4]; exact hg
    refine θ_run_mono (Cert.ReferenceIdeal.Run.run_value m' ρ' hf) (fun r hr c => ?_)
    obtain rfl : c = 0 := Subsingleton.elim _ _
    refine ⟨(hr 0).1.trans ?_, (hr 0).2⟩
    refine congrArg (fun y : Vec Ideal Cert.KernelIdeal.S24576x1536 .bf16 => shapeCast Cert.KernelIdeal.S12x2048x1536 y Cert.KernelIdeal.Facts₀.shapeCasts_S24576x1536_S12x2048x1536) ?_
    have e := congr (congr (congr (congrArg (Cert.Moe.whole (Cert.Moe.sz (Cert.KernelIdeal.Run.szs m 0))) h0) h1) h2) h3
    exact e

end Cert.Proof

end
-- ==== Proof.lean ====
/- The proof of the claims: the kernel, its idealization and the reference run and leave their arguments unchanged; the idealization is
   the kernel's own text; the idealized kernel and the reference end with equal results. -/
module

public import proofs.«01_k».proof.Proof.Frames
public import proofs.«01_k».proof.Proof.Algebraic

@[expose] public section

noncomputable section

namespace Cert.Proof

/-- All the claims of the statement. -/
theorem claim : Cert.Claim :=
  ⟨Cert.Kernel.Gen.facts, Cert.KernelIdeal.Gen.facts, Cert.ReferenceIdeal.Gen.facts, Cert.Pre_groups_fill.Gen.facts,
    kernel_frame, ideal_frame, reference_frame, reference_frame_pre, trivial, algebraic⟩

end Cert.Proof

end
